-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S4x1024x64 : Shape := ⟨3, ![4, 1024, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_

variable [Facts]

def fn {F : FTy → Type} [FloatOps F] (main_arg0 : FVec F S16384x64 .f32) (main_arg1 : FVec F S4x1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S16384x64 : Shape := ⟨2, ![16384, 64]⟩
abbrev S4x1024x64 : Shape := ⟨3, ![4, 1024, 64]⟩
abbrev S_ : Shape := ⟨0, ![]⟩
abbrev S4x1024 : Shape := ⟨2, ![4, 1024]⟩
abbrev S4x1x1024 : Shape := ⟨3, ![4, 1, 1024]⟩
abbrev S4x256x256 : Shape := ⟨3, ![4, 256, 256]⟩
abbrev S4x768x256 : Shape := ⟨3, ![4, 768, 256]⟩
abbrev S16384 : Shape := ⟨1, ![16384]⟩
abbrev S16384x1 : Shape := ⟨2, ![16384, 1]⟩
abbrev S1x1 : Shape := ⟨2, ![1, 1]⟩
abbrev S16384x4 : Shape := ⟨2, ![16384, 4]⟩
abbrev S2048x64 : Shape := ⟨2, ![2048, 64]⟩
abbrev S2048x1 : Shape := ⟨2, ![2048, 1]⟩
abbrev S1x1024x64 : Shape := ⟨3, ![1, 1024, 64]⟩
abbrev S1x768x256 : Shape := ⟨3, ![1, 768, 256]⟩
abbrev S1x1x1024 : Shape := ⟨3, ![1, 1, 1024]⟩
abbrev S1024x64 : Shape := ⟨2, ![1024, 64]⟩
abbrev S1x1024 : Shape := ⟨2, ![1, 1024]⟩
abbrev S2048x1024 : Shape := ⟨2, ![2048, 1024]⟩
abbrev S2048 : Shape := ⟨1, ![2048]⟩
abbrev S2048x768 : Shape := ⟨2, ![2048, 768]⟩
abbrev S768x256 : Shape := ⟨2, ![768, 256]⟩
abbrev S2048x256 : Shape := ⟨2, ![2048, 256]⟩
abbrev S1x2048x64 : Shape := ⟨3, ![1, 2048, 64]⟩
abbrev S1 : Shape := ⟨1, ![1]⟩
abbrev S1x1x1 : Shape := ⟨3, ![1, 1, 1]⟩

abbrev nBuf : Space → Nat
  | .hbm => 46
  | .vmem => 47
  | .smem => 0
  | _ => 0

abbrev bufTy : (tb : Table) → Fin (tcTables nBuf tb) → BufTy
  | .hbm, ⟨0, _⟩ => ⟨S16384x64, .f32⟩
  | .hbm, ⟨1, _⟩ => ⟨S4x1024x64, .f32⟩
  | .hbm, ⟨2, _⟩ => ⟨S4x1024x64, .f32⟩
  | .hbm, ⟨3, _⟩ => ⟨S_, .f32⟩
  | .hbm, ⟨4, _⟩ => ⟨S4x1024, .f32⟩
  | .hbm, ⟨5, _⟩ => ⟨S4x1x1024, .f32⟩
  | .hbm, ⟨6, _⟩ => ⟨S4x1024x64, .bf16⟩
  | .hbm, ⟨7, _⟩ => ⟨S4x1024x64, .f32⟩
  | .hbm, ⟨8, _⟩ => ⟨S4x1024x64, .f32⟩
  | .hbm, ⟨9, _⟩ => ⟨S4x1024x64, .bf16⟩
  | .hbm, ⟨10, _⟩ => ⟨S4x1024x64, .f32⟩
  | .hbm, ⟨11, _⟩ => ⟨S4x1024x64, .f32⟩
  | .hbm, ⟨12, _⟩ => ⟨S4x1024x64, .bf16⟩
  | .hbm, ⟨13, _⟩ => ⟨S4x1024x64, .bf16⟩
  | .hbm, ⟨14, _⟩ => ⟨S4x1024x64, .bf16⟩
  | .hbm, ⟨15, _⟩ => ⟨S4x256x256, .bf16⟩
  | .hbm, ⟨16, _⟩ => ⟨S4x256x256, .bf16⟩
  | .hbm, ⟨17, _⟩ => ⟨S4x256x256, .bf16⟩
  | .hbm, ⟨18, _⟩ => ⟨S4x768x256, .bf16⟩
  | .hbm, ⟨19, _⟩ => ⟨S16384x64, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1, .i32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x1, .i32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1, .i32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .i32⟩
  | .hbm, ⟨42, _⟩ => ⟨S16384x64, .f32⟩
  | .hbm, ⟨43, _⟩ => ⟨S1x1, .f32⟩
  | .hbm, ⟨44, _⟩ => ⟨S16384x4, .i32⟩
  | .hbm, ⟨45, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x1, .f32⟩
  | .local _ .vmem, ⟨3, _⟩ => ⟨S2048x1, .f32⟩
  | .local _ .vmem, ⟨4, _⟩ => ⟨S1x1024x64, .f32⟩
  | .local _ .vmem, ⟨5, _⟩ => ⟨S1x768x256, .bf16⟩
  | .local _ .vmem, ⟨6, _⟩ => ⟨S1x1x1024, .f32⟩
  | .local _ .vmem, ⟨7, _⟩ => ⟨S2048x1, .i32⟩
  | .local _ .vmem, ⟨8, _⟩ => ⟨S2048x1, .i32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x1, .f32⟩
  | .local _ .vmem, ⟨14, _⟩ => ⟨S2048x1, .f32⟩
  | .local _ .vmem, ⟨15, _⟩ => ⟨S1x1024x64, .f32⟩
  | .local _ .vmem, ⟨16, _⟩ => ⟨S1x768x256, .bf16⟩
  | .local _ .vmem, ⟨17, _⟩ => ⟨S1x1x1024, .f32⟩
  | .local _ .vmem, ⟨18, _⟩ => ⟨S2048x1, .i32⟩
  | .local _ .vmem, ⟨19, _⟩ => ⟨S2048x1, .i32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x1, .f32⟩
  | .local _ .vmem, ⟨25, _⟩ => ⟨S2048x1, .f32⟩
  | .local _ .vmem, ⟨26, _⟩ => ⟨S1x1024x64, .f32⟩
  | .local _ .vmem, ⟨27, _⟩ => ⟨S1x768x256, .bf16⟩
  | .local _ .vmem, ⟨28, _⟩ => ⟨S1x1x1024, .f32⟩
  | .local _ .vmem, ⟨29, _⟩ => ⟨S2048x1, .i32⟩
  | .local _ .vmem, ⟨30, _⟩ => ⟨S2048x1, .i32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S2048x64, .f32⟩
  | .local _ .vmem, ⟨35, _⟩ => ⟨S2048x1, .f32⟩
  | .local _ .vmem, ⟨36, _⟩ => ⟨S2048x1, .f32⟩
  | .local _ .vmem, ⟨37, _⟩ => ⟨S1x1024x64, .f32⟩
  | .local _ .vmem, ⟨38, _⟩ => ⟨S1x768x256, .bf16⟩
  | .local _ .vmem, ⟨39, _⟩ => ⟨S1x1x1024, .f32⟩
  | .local _ .vmem, ⟨40, _⟩ => ⟨S2048x64, .f32⟩
  | .local _ .vmem, ⟨41, _⟩ => ⟨S2048x64, .f32⟩
  | .local _ .vmem, ⟨42, _⟩ => ⟨S2048x1, .i32⟩
  | .local _ .vmem, ⟨43, _⟩ => ⟨S2048x1, .i32⟩
  | .local _ .vmem, ⟨44, _⟩ => ⟨S2048x64, .f32⟩
  | .local _ .vmem, ⟨45, _⟩ => ⟨S2048x64, .f32⟩
  | .local _ .vmem, ⟨46, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_cst_0 : Ref sig .tc := ⟨.hbm, 20, rfl⟩
abbrev main_call0_v17 : Ref sig .tc := ⟨.hbm, 21, rfl⟩
abbrev main_call0_v18 : Ref sig .tc := ⟨.hbm, 22, rfl⟩
abbrev main_call0_v19_0 : Ref sig .tc := ⟨.hbm, 23, rfl⟩
abbrev main_call0_v19_1 : Ref sig .tc := ⟨.hbm, 24, rfl⟩
abbrev main_call0_v20 : Ref sig .tc := ⟨.hbm, 25, rfl⟩
abbrev main_call0_cst_1 : Ref sig .tc := ⟨.hbm, 26, rfl⟩
abbrev main_call0_v21 : Ref sig .tc := ⟨.hbm, 27, rfl⟩
abbrev main_call0_v22 : Ref sig .tc := ⟨.hbm, 28, rfl⟩
abbrev main_call0_v23_0 : Ref sig .tc := ⟨.hbm, 29, rfl⟩
abbrev main_call0_v23_1 : Ref sig .tc := ⟨.hbm, 30, rfl⟩
abbrev main_call0_v24 : Ref sig .tc := ⟨.hbm, 31, rfl⟩
abbrev main_call0_cst_2 : Ref sig .tc := ⟨.hbm, 32, rfl⟩
abbrev main_call0_v25 : Ref sig .tc := ⟨.hbm, 33, rfl⟩
abbrev main_call0_v26 : Ref sig .tc := ⟨.hbm, 34, rfl⟩
abbrev main_call0_v27_0 : Ref sig .tc := ⟨.hbm, 35, rfl⟩
abbrev main_call0_v27_1 : Ref sig .tc := ⟨.hbm, 36, rfl⟩
abbrev main_call0_v28 : Ref sig .tc := ⟨.hbm, 37, rfl⟩
abbrev main_call0_cst_3 : Ref sig .tc := ⟨.hbm, 38, rfl⟩
abbrev main_call0_v29 : Ref sig .tc := ⟨.hbm, 39, rfl⟩
abbrev main_call0_v30 : Ref sig .tc := ⟨.hbm, 40, rfl⟩
abbrev main_call0_v31_0 : Ref sig .tc := ⟨.hbm, 41, rfl⟩
abbrev main_v0_0 : Ref sig .tc := ⟨.hbm, 42, rfl⟩
abbrev main_call0_v31_2 : Ref sig .tc := ⟨.hbm, 43, rfl⟩
abbrev main_v0_1 : Ref sig .tc := ⟨.hbm, 44, rfl⟩
abbrev main_v0_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_4 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def k3_cond1 (i : grid3.Coords) : BitVec 1 :=
  let arg0 : BitVec 32 := BitVec.ofNat 32 (i 0).val
  let c0_i32_25 : BitVec 32 := 0#32
  let v84 : BitVec 1 := Scalar.cmpi .eq arg0 c0_i32_25
  let v85 : BitVec 32 := Scalar.extui v84
  let c0_i32_26 : BitVec 32 := 0#32
  let v86 : BitVec 1 := Scalar.cmpi .ne v85 c0_i32_26
  v86

def k3_cond2 (i : grid3.Coords) : BitVec 1 :=
  let arg0 : BitVec 32 := BitVec.ofNat 32 (i 0).val
  let c0_i32_27 : BitVec 32 := 0#32
  let v87 : BitVec 1 := Scalar.cmpi .ne arg0 c0_i32_27
  let c7_i32 : BitVec 32 := 7#32
  let v88 : BitVec 1 := Scalar.cmpi .ne arg0 c7_i32
  let v89 : BitVec 1 := Scalar.andi v87 v88
  let v90 : BitVec 32 := Scalar.extui v89
  let c0_i32_28 : BitVec 32 := 0#32
  let v91 : BitVec 1 := Scalar.cmpi .ne v90 c0_i32_28
  v91

def k3_cond3 (i : grid3.Coords) : BitVec 1 :=
  let arg0 : BitVec 32 := BitVec.ofNat 32 (i 0).val
  let c0_i32_29 : BitVec 32 := 0#32
  let v92 : BitVec 1 := Scalar.cmpi .ne arg0 c0_i32_29
  let c7_i32_30 : BitVec 32 := 7#32
  let v93 : BitVec 1 := Scalar.cmpi .eq arg0 c7_i32_30
  let v94 : BitVec 1 := Scalar.andi v92 v93
  let v95 : BitVec 32 := Scalar.extui v94
  let c0_i32_31 : BitVec 32 := 0#32
  let v96 : BitVec 1 := Scalar.cmpi .ne v95 c0_i32_31
  v96

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_4 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x768x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2048x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2048x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]
-- ==== ReferenceIdeal.lean ====
abbrev S16384x64 : Shape := ⟨2, ![16384, 64]⟩
abbrev S4x1024x64 : Shape := ⟨3, ![4, 1024, 64]⟩
abbrev S1x1024x64 : Shape := ⟨3, ![1, 1024, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x16384x64 : Shape := ⟨3, ![1, 16384, 64]⟩
abbrev S4x16384x64 : Shape := ⟨3, ![4, 16384, 64]⟩
abbrev S16384x4 : Shape := ⟨2, ![16384, 4]⟩

abbrev nBuf : Space → Nat
  | .hbm => 214
  | .vmem => 0
  | .smem => 0
  | _ => 0

abbrev hbmTy0_0 (i : Nat) : BufTy := match i % 128 with
  | 0 => ⟨S16384x64, .f32⟩
  | 1 => ⟨S4x1024x64, .f32⟩
  | 2 => ⟨S1x1024x64, .f32⟩
  | 3 => ⟨S1024x64, .f32⟩
  | 4 => ⟨S16384x64, .f32⟩
  | 5 => ⟨S_, .f32⟩
  | 6 => ⟨S16384, .f32⟩
  | 7 => ⟨S16384x1, .f32⟩
  | 8 => ⟨S64x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S16384x1024, .f32⟩
  | 15 => ⟨S1024x64, .f32⟩
  | 16 => ⟨S_, .f32⟩
  | 17 => ⟨S1024, .f32⟩
  | 18 => ⟨S1x1024, .f32⟩
  | 19 => ⟨S16384x1024, .f32⟩
  | 20 => ⟨S16384x1024, .f32⟩
  | 21 => ⟨S16384x1024, .i32⟩
  | 22 => ⟨S_, .f32⟩
  | 23 => ⟨S_, .i32⟩
  | 24 => ⟨S16384, .f32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S16384x1, .i32⟩
  | 34 => ⟨S1, .i32⟩
  | 35 => ⟨S_, .i32⟩
  | 36 => ⟨S16384x1, .i32⟩
  | 37 => ⟨S16384x1, .i1⟩
  | 38 => ⟨S1x1, .i32⟩
  | 39 => ⟨S16384x1, .i32⟩
  | 40 => ⟨S16384x1, .i1⟩
  | 41 => ⟨S16384x1, .i1⟩
  | 42 => ⟨S_, .i1⟩
  | 43 => ⟨S16384, .i1⟩
  | 44 => ⟨S16384x64, .f32⟩
  | 45 => ⟨S16384x64, .i1⟩
  | 46 => ⟨S_, .f32⟩
  | 47 => ⟨S16384x64, .f32⟩
  | 48 => ⟨S16384x64, .f32⟩
  | 49 => ⟨S16384x64, .f32⟩
  | 50 => ⟨S1x1024x64, .f32⟩
  | 51 => ⟨S1024x64, .f32⟩
  | 52 => ⟨S16384x64, .f32⟩
  | 53 => ⟨S_, .f32⟩
  | 54 => ⟨S16384, .f32⟩
  | 55 => ⟨S16384x1, .f32⟩
  | 56 => ⟨S64x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S1024x64, .f32⟩
  | 64 => ⟨S_, .f32⟩
  | 65 => ⟨S1024, .f32⟩
  | 66 => ⟨S1x1024, .f32⟩
  | 67 => ⟨S16384x1024, .f32⟩
  | 68 => ⟨S16384x1024, .f32⟩
  | 69 => ⟨S16384x1024, .i32⟩
  | 70 => ⟨S_, .f32⟩
  | 71 => ⟨S_, .i32⟩
  | 72 => ⟨S16384, .f32⟩
  | 73 => ⟨S16384, .i32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x64, .f32⟩
  | 93 => ⟨S16384x64, .i1⟩
  | 94 => ⟨S_, .f32⟩
  | 95 => ⟨S16384x64, .f32⟩
  | 96 => ⟨S16384x64, .f32⟩
  | 97 => ⟨S16384x64, .f32⟩
  | 98 => ⟨S1x1024x64, .f32⟩
  | 99 => ⟨S1024x64, .f32⟩
  | 100 => ⟨S16384x64, .f32⟩
  | 101 => ⟨S_, .f32⟩
  | 102 => ⟨S16384, .f32⟩
  | 103 => ⟨S16384x1, .f32⟩
  | 104 => ⟨S64x1024, .f32⟩
  | 105 => ⟨S16384x1024, .f32⟩
  | 106 => ⟨S_, .f32⟩
  | 107 => ⟨S16384x1024, .f32⟩
  | 108 => ⟨S16384x1024, .f32⟩
  | 109 => ⟨S16384x1024, .f32⟩
  | 110 => ⟨S16384x1024, .f32⟩
  | 111 => ⟨S1024x64, .f32⟩
  | 112 => ⟨S_, .f32⟩
  | 113 => ⟨S1024, .f32⟩
  | 114 => ⟨S1x1024, .f32⟩
  | 115 => ⟨S16384x1024, .f32⟩
  | 116 => ⟨S16384x1024, .f32⟩
  | 117 => ⟨S16384x1024, .i32⟩
  | 118 => ⟨S_, .f32⟩
  | 119 => ⟨S_, .i32⟩
  | 120 => ⟨S16384, .f32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384x64, .f32⟩

abbrev hbmTy0_1 (i : Nat) : BufTy := match i % 128 with
  | 0 => ⟨S16384, .i32⟩
  | 1 => ⟨S16384x1, .i32⟩
  | 2 => ⟨S1, .i32⟩
  | 3 => ⟨S_, .i32⟩
  | 4 => ⟨S16384x1, .i32⟩
  | 5 => ⟨S16384x1, .i1⟩
  | 6 => ⟨S1x1, .i32⟩
  | 7 => ⟨S16384x1, .i32⟩
  | 8 => ⟨S16384x1, .i1⟩
  | 9 => ⟨S16384x1, .i1⟩
  | 10 => ⟨S_, .i1⟩
  | 11 => ⟨S16384, .i1⟩
  | 12 => ⟨S16384x64, .f32⟩
  | 13 => ⟨S16384x64, .i1⟩
  | 14 => ⟨S_, .f32⟩
  | 15 => ⟨S16384x64, .f32⟩
  | 16 => ⟨S16384x64, .f32⟩
  | 17 => ⟨S16384x64, .f32⟩
  | 18 => ⟨S1x1024x64, .f32⟩
  | 19 => ⟨S1024x64, .f32⟩
  | 20 => ⟨S16384x64, .f32⟩
  | 21 => ⟨S_, .f32⟩
  | 22 => ⟨S16384, .f32⟩
  | 23 => ⟨S16384x1, .f32⟩
  | 24 => ⟨S64x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S16384x1024, .f32⟩
  | 31 => ⟨S1024x64, .f32⟩
  | 32 => ⟨S_, .f32⟩
  | 33 => ⟨S1024, .f32⟩
  | 34 => ⟨S1x1024, .f32⟩
  | 35 => ⟨S16384x1024, .f32⟩
  | 36 => ⟨S16384x1024, .f32⟩
  | 37 => ⟨S16384x1024, .i32⟩
  | 38 => ⟨S_, .f32⟩
  | 39 => ⟨S_, .i32⟩
  | 40 => ⟨S16384, .f32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x64, .f32⟩
  | 61 => ⟨S16384x64, .i1⟩
  | 62 => ⟨S_, .f32⟩
  | 63 => ⟨S16384x64, .f32⟩
  | 64 => ⟨S16384x64, .f32⟩
  | 65 => ⟨S16384x64, .f32⟩
  | 66 => ⟨S1x16384x64, .f32⟩
  | 67 => ⟨S1x16384x64, .f32⟩
  | 68 => ⟨S1x16384x64, .f32⟩
  | 69 => ⟨S1x16384x64, .f32⟩
  | 70 => ⟨S4x16384x64, .f32⟩
  | 71 => ⟨S_, .f32⟩
  | 72 => ⟨S16384x64, .f32⟩
  | 73 => ⟨S16384x64, .f32⟩
  | 74 => ⟨S16384x64, .f32⟩
  | 75 => ⟨S_, .f32⟩
  | 76 => ⟨S_, .f32⟩
  | 77 => ⟨S_, .f32⟩
  | 78 => ⟨S_, .f32⟩
  | 79 => ⟨S16384x64, .f32⟩
  | 80 => ⟨S16384x64, .f32⟩
  | 81 => ⟨S16384x1, .i32⟩
  | 82 => ⟨S16384x1, .i32⟩
  | 83 => ⟨S16384x1, .i32⟩
  | 84 => ⟨S16384x1, .i32⟩
  | 85 => ⟨S16384x4, .i32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call2_v0 : Ref sig .tc := ⟨.hbm, 69, rfl⟩
abbrev main_call2_cst : Ref sig .tc := ⟨.hbm, 70, rfl⟩
abbrev main_call2_c : Ref sig .tc := ⟨.hbm, 71, rfl⟩
abbrev main_call2_v1_0 : Ref sig .tc := ⟨.hbm, 72, rfl⟩
abbrev main_v35 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_6 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_7 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_call4_v0 : Ref sig .tc := ⟨.hbm, 117, rfl⟩
abbrev main_call4_cst : Ref sig .tc := ⟨.hbm, 118, rfl⟩
abbrev main_call4_c : Ref sig .tc := ⟨.hbm, 119, rfl⟩
abbrev main_call4_v1_0 : Ref sig .tc := ⟨.hbm, 120, rfl⟩
abbrev main_v54 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_call5_cst : Ref sig .tc := ⟨.hbm, 142, rfl⟩
abbrev main_call5_v15 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_cst_8 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_9 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_10 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_call6_v0 : Ref sig .tc := ⟨.hbm, 165, rfl⟩
abbrev main_call6_cst : Ref sig .tc := ⟨.hbm, 166, rfl⟩
abbrev main_call6_c : Ref sig .tc := ⟨.hbm, 167, rfl⟩
abbrev main_call6_v1_0 : Ref sig .tc := ⟨.hbm, 168, rfl⟩
abbrev main_v73 : Ref sig .tc := ⟨.hbm, 169, rfl⟩
abbrev main_call7_c : Ref sig .tc := ⟨.hbm, 170, rfl⟩
abbrev main_call7_v0 : Ref sig .tc := ⟨.hbm, 171, rfl⟩
abbrev main_call7_v1 : Ref sig .tc := ⟨.hbm, 172, rfl⟩
abbrev main_call7_c_0 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_call7_v5 : Ref sig .tc := ⟨.hbm, 177, rfl⟩
abbrev main_call7_c_1 : Ref sig .tc := ⟨.hbm, 178, rfl⟩
abbrev main_call7_c_2 : Ref sig .tc := ⟨.hbm, 179, rfl⟩
abbrev main_call7_v6 : Ref sig .tc := ⟨.hbm, 180, rfl⟩
abbrev main_call7_v7 : Ref sig .tc := ⟨.hbm, 181, rfl⟩
abbrev main_call7_v8 : Ref sig .tc := ⟨.hbm, 182, rfl⟩
abbrev main_call7_v9 : Ref sig .tc := ⟨.hbm, 183, rfl⟩
abbrev main_call7_v10 : Ref sig .tc := ⟨.hbm, 184, rfl⟩
abbrev main_call7_v11 : Ref sig .tc := ⟨.hbm, 185, rfl⟩
abbrev main_call7_c_3 : Ref sig .tc := ⟨.hbm, 186, rfl⟩
abbrev main_call7_v12 : Ref sig .tc := ⟨.hbm, 187, rfl⟩
abbrev main_call7_v13 : Ref sig .tc := ⟨.hbm, 188, rfl⟩
abbrev main_call7_v14 : Ref sig .tc := ⟨.hbm, 189, rfl⟩
abbrev main_call7_cst : Ref sig .tc := ⟨.hbm, 190, rfl⟩
abbrev main_call7_v15 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_cst_11 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_cst_12 : Ref sig .tc := ⟨.hbm, 203, rfl⟩
abbrev main_v84 : Ref sig .tc := ⟨.hbm, 204, rfl⟩
abbrev main_cst_13 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩

abbrev nD : Nat := 1
abbrev τ : Topo := Topo.v7x

variable {F : FTy → Type} [FloatOps F]
-- ==== Proof.StageBody.lean ====
/- The body of one stage as a program over any pair of pure functions, and what it does to its staging buffers.

   The kernel's four stage bodies read the same five operands (residual, its row sums of squares, the codebook, the
   codebook's bf16 planes, the codes' squared norms) and store an index column and a new residual. `stageProg` is that
   sequence of loads and stores with the two stored values as parameters; the bodies of the first three stages ARE it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The index column a stage stores, as a function of the residual block, its row sums of squares, the codebook block
    and the codes' squared norms. -/
abbrev IdxFn (F : FTy → Type) : Type :=
  Vec F S2048x64 .f32 → Vec F S2048x1 .f32 → Vec F S1x1024x64 .f32 → Vec F S1x1x1024 .f32 → IVec S2048x1 32

/-- The new residual a stage stores: of the same four and of the block of bf16 planes. -/
abbrev ResFn (F : FTy → Type) : Type :=
  Vec F S2048x64 .f32 → Vec F S2048x1 .f32 → Vec F S1x1024x64 .f32 → Vec F S1x1x1024 .f32 → Vec F S1x768x256 .bf16 →
    FVec F S2048x64 .f32

abbrev rRes : Rect S2048x64 := Rect.unit (s := S2048x64) ![0, 0] S2048x64.size inb_S2048x64_S2048x64_0_0
abbrev rCol : Rect S2048x1 := Rect.unit (s := S2048x1) ![0, 0] S2048x1.size inb_S2048x1_S2048x1_0_0
abbrev rBook : Rect S1x1024x64 := Rect.unit (s := S1x1024x64) ![0, 0, 0] S1x1024x64.size inb_S1x1024x64_S1x1024x64_0_0_0
abbrev rNorm : Rect S1x1x1024 := Rect.unit (s := S1x1x1024) ![0, 0, 0] S1x1x1024.size inb_S1x1x1024_S1x1x1024_0_0_0
abbrev rPlane : Rect S1x768x256 := Rect.unit (s := S1x768x256) ![0, 0, 0] S1x768x256.size inb_S1x768x256_S1x768x256_0_0_0

/-- One stage: load the residual, the sums of squares, the codebook and the norms, store the index column, load the
    planes, store the new residual (each store preceded by a load of what it overwrites, as printed). -/
def stageProg (pi : IdxFn F) (pn : ResFn F)
    (a1 : Memref sig .tc .vmem S2048x64 .f32) (a2 : Memref sig .tc .vmem S2048x1 .f32) (a3 : Memref sig .tc .vmem S1x1024x64 .f32)
    (a4 : Memref sig .tc .vmem S1x768x256 .bf16) (a5 : Memref sig .tc .vmem S1x1x1024 .f32) (a6 : Memref sig .tc .vmem S2048x1 .i32)
    (a7 : Memref sig .tc .vmem S2048x64 .f32) : Prog (TpuEff nD τ sig (Elt F) Λ₀ .tc) PUnit := do
  let v0 : Vec F S2048x64 .f32 ← Prog.lift (.load a1 rRes.toLoadRect (View.loadsAt_vmem h_S2048x64))
  let v1 : Vec F S2048x1 .f32 ← Prog.lift (.load a2 rCol.toLoadRect (View.loadsAt_vmem h_S2048x1))
  let v3 : Vec F S1x1024x64 .f32 ← Prog.lift (.load a3 rBook.toLoadRect (View.loadsAt_vmem h_S1x1024x64))
  let v5 : Vec F S1x1x1024 .f32 ← Prog.lift (.load a5 rNorm.toLoadRect (View.loadsAt_vmem h_S1x1x1024))
  let _ : Vec F S2048x1 .i32 ← Prog.lift (.load a6 rCol.toLoadRect (View.loadsAt_vmem h_S2048x1))
  Prog.lift (.store a6 rCol (pi v0 v1 v3 v5) Finset.univ (View.stores_vmem_bits_univ h_S2048x1 rfl) (.inl rfl))
  let v36 : Vec F S1x768x256 .bf16 ← Prog.lift (.load a4 rPlane.toLoadRect (View.loadsAt_vmem h_S1x768x256))
  let _ : Vec F S2048x64 .f32 ← Prog.lift (.load a7 rRes.toLoadRect (View.loadsAt_vmem h_S2048x64))
  Prog.lift (.store a7 rRes (pn v0 v1 v3 v5 v36) Finset.univ (View.stores_vmem_bits_univ h_S2048x64 rfl) (.inl rfl))
  pure ⟨⟩

/-- The new residual of stage 0, from what it loads. -/
def k0_new : ResFn F := fun v0 v1 v3 v5 v36 => k0_pay1 v0 (k0_pay3 v0 v1 v3 v5) (k0_pay4 v0 v1 v3 v5) v36
/-- The new residual of stage 1. -/
def k1_new : ResFn F := fun v0 v1 v3 v5 v36 => k1_pay1 (k1_pay2 v0) (k1_pay4 v0 v1 v3 v5) (k1_pay5 v0 v1 v3 v5) v36
/-- The new residual of stage 2. -/
def k2_new : ResFn F := fun v0 v1 v3 v5 v36 => k2_pay1 (k2_pay2 v0) (k2_pay4 v0 v1 v3 v5) (k2_pay5 v0 v1 v3 v5) v36

/-- Stage 0's printed body is `stageProg`. -/
theorem cc0_eq (i a1 h1 a2 h2 a3 h3 a4 h4 a5 h5 a6 h6 a7 h7) :
    cc0__stage_body (F := F) i a1 h1 a2 h2 a3 h3 a4 h4 a5 h5 a6 h6 a7 h7 = stageProg k0_pay2 k0_new a1 a2 a3 a4 a5 a6 a7 := by
  rw [cc0__stage_body_eq_skeleton]; unfold cc0__stage_body_skel; rw [k0_part1_eq_skeleton]; rfl
/-- Stage 1's printed body is `stageProg`. -/
theorem cc1_eq (i a1 h1 a2 h2 a3 h3 a4 h4 a5 h5 a6 h6 a7 h7) :
    cc1__stage_body (F := F) i a1 h1 a2 h2 a3 h3 a4 h4 a5 h5 a6 h6 a7 h7 = stageProg k1_pay3 k1_new a1 a2 a3 a4 a5 a6 a7 := by
  rw [cc1__stage_body_eq_skeleton]; unfold cc1__stage_body_skel; rw [k1_part1_eq_skeleton]; rfl
/-- Stage 2's printed body is `stageProg`. -/
theorem cc2_eq (i a1 h1 a2 h2 a3 h3 a4 h4 a5 h5 a6 h6 a7 h7) :
    cc2__stage_body (F := F) i a1 h1 a2 h2 a3 h3 a4 h4 a5 h5 a6 h6 a7 h7 = stageProg k2_pay3 k2_new a1 a2 a3 a4 a5 a6 a7 := by
  rw [cc2__stage_body_eq_skeleton]; unfold cc2__stage_body_skel; rw [k2_part1_eq_skeleton]; rfl

/-- One store through the whole rectangle covers the index column. -/
theorem cover_col (p : Vec F S2048x1 .i32) (y : S2048x1.Idx) :
    ∃ pc ∈ ([⟨rCol, p⟩] : List (View.Piece (Elt F) S2048x1 .i32)), y ∈ pc.1.set :=
  View.cover_of_tiled [⟨rCol, p⟩] S2048x1.size (by rfl) y
/-- One store through the whole rectangle covers a residual block. -/
theorem cover_res (p : Vec F S2048x64 .f32) (y : S2048x64.Idx) :
    ∃ pc ∈ ([⟨rRes, p⟩] : List (View.Piece (Elt F) S2048x64 .f32)), y ∈ pc.1.set :=
  View.cover_of_tiled [⟨rRes, p⟩] S2048x64.size (by rfl) y

/-- What the index column's store leaves is the stored value of what the loads read: every rectangle is a whole buffer. -/
theorem canon_idx (pi : IdxFn F) (x0 : Vec F S2048x64 .f32) (x1 : Vec F S2048x1 .f32) (x2 : Vec F S1x1024x64 .f32) (x4 : Vec F S1x1x1024 .f32) :
    View.canon ([⟨rCol, pi (View.ld x0 rRes) (View.ld x1 rCol) (View.ld x2 rBook) (View.ld x4 rNorm)⟩] : List (View.Piece (Elt F) S2048x1 .i32))
      = pi x0 x1 x2 x4 := by
  refine (View.canon_cons_unit_lit _ _ _ (by decide)).trans ?_
  congr 1 <;> exact View.ld_unit_lit _ _ (by decide)

/-- The same of the new residual's store. -/
theorem canon_new (pn : ResFn F) (x0 : Vec F S2048x64 .f32) (x1 : Vec F S2048x1 .f32) (x2 : Vec F S1x1024x64 .f32) (x3 : Vec F S1x768x256 .bf16) (x4 : Vec F S1x1x1024 .f32) :
    View.canon ([⟨rRes, pn (View.ld x0 rRes) (View.ld x1 rCol) (View.ld x2 rBook) (View.ld x4 rNorm) (View.ld x3 rPlane)⟩] : List (View.Piece (Elt F) S2048x64 .f32))
      = pn x0 x1 x2 x4 x3 := by
  refine (View.canon_cons_unit_lit _ _ _ (by decide)).trans ?_
  congr 1 <;> exact View.ld_unit_lit _ _ (by decide)

set_option maxHeartbeats 1000000 in
/-- The stage's triple: from the inputs' buffers at `x0 … x4` (each handed over as the body finds it) and the outputs' at
    anything, beside any `Φ` and `O`, the inputs' buffers stay and the outputs' hold `pi` and `pn` of what was loaded (the
    final contents `y0 … y6` are given up to equations). -/
theorem stage_triple (c : Dev nD) (pi : IdxFn F) (pn : ResFn F) (Φ O : sProp 𝕄)
    (a1 : Memref sig .tc .vmem S2048x64 .f32) (a2 : Memref sig .tc .vmem S2048x1 .f32) (a3 : Memref sig .tc .vmem S1x1024x64 .f32)
    (a4 : Memref sig .tc .vmem S1x768x256 .bf16) (a5 : Memref sig .tc .vmem S1x1x1024 .f32) (a6 : Memref sig .tc .vmem S2048x1 .i32)
    (a7 : Memref sig .tc .vmem S2048x64 .f32)
    (x0 : Vec F S2048x64 .f32) (x1 : Vec F S2048x1 .f32) (x2 : Vec F S1x1024x64 .f32) (x3 : Vec F S1x768x256 .bf16) (x4 : Vec F S1x1x1024 .f32)
    {D0 D1 D2 D3 D4 D5 D6 : Type} {b0 : D0 → Vec F S2048x64 .f32} {b1 : D1 → Vec F S2048x1 .f32} {b2 : D2 → Vec F S1x1024x64 .f32}
    {b3 : D3 → Vec F S1x768x256 .bf16} {b4 : D4 → Vec F S1x1x1024 .f32} {b5 : D5 → Vec F S2048x1 .i32} {b6 : D6 → Vec F S2048x64 .f32}
    (e0 : ∀ d, b0 d = x0) (e1 : ∀ d, b1 d = x1) (e2 : ∀ d, b2 d = x2) (e3 : ∀ d, b3 d = x3) (e4 : ∀ d, b4 d = x4)
    {y0 : Vec F S2048x64 .f32} {y1 : Vec F S2048x1 .f32} {y2 : Vec F S1x1024x64 .f32} {y3 : Vec F S1x768x256 .bf16} {y4 : Vec F S1x1x1024 .f32}
    {y5 : Vec F S2048x1 .i32} {y6 : Vec F S2048x64 .f32} (g0 : y0 = x0) (g1 : y1 = x1) (g2 : y2 = x2) (g3 : y3 = x3) (g4 : y4 = x4)
    (g5 : y5 = pi x0 x1 x2 x4) (g6 : y6 = pn x0 x1 x2 x4 x3) :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)) ∗ (∃ d, owns (c : Thread nD τ) a6 fullShare (b5 d))
        ∗ (∃ d, owns (c : Thread nD τ) a7 fullShare (b6 d)))
      ⊢ wp frame (wpE (defs₀ (F := F)) Variants.none c none) Set.univ (stageProg pi pn a1 a2 a3 a4 a5 a6 a7) (fun _ =>
        iprop(Φ ∗ O ∗ owns (c : Thread nD τ) a1 fullShare y0 ∗ owns (c : Thread nD τ) a2 fullShare y1 ∗ owns (c : Thread nD τ) a3 fullShare y2
          ∗ owns (c : Thread nD τ) a4 fullShare y3 ∗ owns (c : Thread nD τ) a5 fullShare y4
          ∗ owns (c : Thread nD τ) a6 fullShare y5 ∗ owns (c : Thread nD τ) a7 fullShare y6)) := by
  subst g0 g1 g2 g3 g4 g5 g6
  simp only [e0, e1, e2, e3, e4]
  rw [← canon_idx pi, ← canon_new pn]
  unfold stageProg owns
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, -, H5⟩, ⟨%d6, %f6, -, H6⟩⟩
  subst hf0 hf1 hf2 hf3 hf4
  sl_exec
  sl_step
  isplitl [HΦ]; · iexact HΦ
  isplitl [HO]; · iexact HO
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_col _)
  iexists _; isplitr
  swap; · iexact H6
  ipureintro
  exact View.read_writes_eq_canon _ _ _ (cover_res _)

end Cert.Rvq

end
-- ==== Proof.Stages.lean ====
/- The first three pipelines: what each leaves at every grid point, and that its body does so.

   Everything is stated over any valuation `W` of the device's buffers at the region's entry. -/
module

public import proofs.«01_k».proof.Proof.StageBody
public import Idealize.ShloMosaic.Lib.Pipeline.RegionArraysS

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- Proof data of a pipeline of @main on core `c`, at this development's resources. -/
abbrev PDat {Λ : Idealize.SL.Sem.Labels} (cfg : Cfg sig Λ) (c : Dev nD) : Type :=
  Dat τ (Elt F) Unit ℕ (UR sig nD τ) ℕ cfg c

variable (W : Dev nD → Valuation τ sig (Elt F)) (c : Dev nD)

/-- Window `w`'s block at point `t`, read off its array as the region finds it. -/
def blockAt {Λ : Idealize.SL.Sem.Labels} (cfg : Cfg sig Λ) (w : Fin cfg.W) (t : Fin cfg.N) :
    ((cfg.win w).xblock (cfg.grid.coords t)).Idx → Elt F (cfg.win w).elt :=
  ((cfg.win w).blk t).view.read (Elt F) (W c (Proc.devRef .tc (Pipeline.arrRef cfg.spec w)))

/-- Proof data of stage 0. -/
def dat0 : PDat (F := F) cfg0 c where
  A w := W c (Proc.devRef .tc (Pipeline.arrRef spec0 w))
  after w t := match w with
    | ⟨0, _⟩ => blockAt W c cfg0 0 t
    | ⟨1, _⟩ => blockAt W c cfg0 1 t
    | ⟨2, _⟩ => blockAt W c cfg0 2 t
    | ⟨3, _⟩ => blockAt W c cfg0 3 t
    | ⟨4, _⟩ => blockAt W c cfg0 4 t
    | ⟨5, _⟩ => k0_pay2 (blockAt W c cfg0 0 t) (blockAt W c cfg0 1 t) (blockAt W c cfg0 2 t) (blockAt W c cfg0 4 t)
    | ⟨6, _⟩ => k0_new (blockAt W c cfg0 0 t) (blockAt W c cfg0 1 t) (blockAt W c cfg0 2 t) (blockAt W c cfg0 4 t) (blockAt W c cfg0 3 t)
  Φ _ := Pipeline.ΦA spec0 c
  q _ := fullShare
  owed _ := 0

/-- Proof data of stage 1. -/
def dat1 : PDat (F := F) cfg1 c where
  A w := W c (Proc.devRef .tc (Pipeline.arrRef spec1 w))
  after w t := match w with
    | ⟨0, _⟩ => blockAt W c cfg1 0 t
    | ⟨1, _⟩ => blockAt W c cfg1 1 t
    | ⟨2, _⟩ => blockAt W c cfg1 2 t
    | ⟨3, _⟩ => blockAt W c cfg1 3 t
    | ⟨4, _⟩ => blockAt W c cfg1 4 t
    | ⟨5, _⟩ => k1_pay3 (blockAt W c cfg1 0 t) (blockAt W c cfg1 1 t) (blockAt W c cfg1 2 t) (blockAt W c cfg1 4 t)
    | ⟨6, _⟩ => k1_new (blockAt W c cfg1 0 t) (blockAt W c cfg1 1 t) (blockAt W c cfg1 2 t) (blockAt W c cfg1 4 t) (blockAt W c cfg1 3 t)
  Φ _ := Pipeline.ΦA spec1 c
  q _ := fullShare
  owed _ := 0

/-- Proof data of stage 2. -/
def dat2 : PDat (F := F) cfg2 c where
  A w := W c (Proc.devRef .tc (Pipeline.arrRef spec2 w))
  after w t := match w with
    | ⟨0, _⟩ => blockAt W c cfg2 0 t
    | ⟨1, _⟩ => blockAt W c cfg2 1 t
    | ⟨2, _⟩ => blockAt W c cfg2 2 t
    | ⟨3, _⟩ => blockAt W c cfg2 3 t
    | ⟨4, _⟩ => blockAt W c cfg2 4 t
    | ⟨5, _⟩ => k2_pay3 (blockAt W c cfg2 0 t) (blockAt W c cfg2 1 t) (blockAt W c cfg2 2 t) (blockAt W c cfg2 4 t)
    | ⟨6, _⟩ => k2_new (blockAt W c cfg2 0 t) (blockAt W c cfg2 1 t) (blockAt W c cfg2 2 t) (blockAt W c cfg2 4 t) (blockAt W c cfg2 3 t)
  Φ _ := Pipeline.ΦA spec2 c
  q _ := fullShare
  owed _ := 0

/-- An input window's staging buffer holds, at every point, whatever value its blocks always read as (`X`), when the body
    leaves it so. -/
theorem before_input {Λ : Idealize.SL.Sem.Labels} {cfg : Cfg sig Λ} (dat : PDat (F := F) cfg c) (w : Fin cfg.W) (hw : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (dat.after w t) = dat.blockOf w t)
    (t : Fin cfg.N) {X : (cfg.win w).block.Idx → Elt F (cfg.win w).elt} (hX : ∀ d, dat.fetched w t d = X) (d) : dat.before w t d = X :=
  (dat.before_in_eq_fetched w hw hlive hclip hkeep t d).trans (hX d)

theorem row0 (t : Fin cfg0.N) : defs₀ (F := F) .tc cfg0.body (cfg0.bodyArgs t (cfg0.slots t)) = bodyAt0 t := by
  unfold defs₀; rw [Defs.onTc_tc]
theorem row1 (t : Fin cfg1.N) : defs₀ (F := F) .tc cfg1.body (cfg1.bodyArgs t (cfg1.slots t)) = bodyAt1 t := by
  unfold defs₀; rw [Defs.onTc_tc]
theorem row2 (t : Fin cfg2.N) : defs₀ (F := F) .tc cfg2.body (cfg2.bodyArgs t (cfg2.slots t)) = bodyAt2 t := by
  unfold defs₀; rw [Defs.onTc_tc]

/-- Stage 0's body meets its proof data at every point. -/
theorem obligation0 : BodyObligation (dat0 W c) (defs₀ (F := F)) Variants.none () Set.univ := fun t => by
  rw [bigSep_W0, bigSep_W0, row0, show bodyAt0 (F := F) t = _ from cc0_eq ..]
  refine triple_restated (stage_triple c k0_pay2 k0_new _ _ _ _ _ _ _ _ _
    (blockAt W c cfg0 0 t) (blockAt W c cfg0 1 t) (blockAt W c cfg0 2 t) (blockAt W c cfg0 3 t) (blockAt W c cfg0 4 t)
    (before_input c (dat0 W c) 0 rfl (fun _ => rfl) (fun _ _ _ => rfl) (fun _ => rfl) t fun _ => rfl)
    (before_input c (dat0 W c) 1 rfl (fun _ => rfl) (fun _ _ _ => rfl) (fun _ => rfl) t fun _ => rfl)
    (before_input c (dat0 W c) 2 rfl (fun _ => rfl) (fun _ _ _ => rfl) (fun _ => rfl) t fun _ => rfl)
    (before_input c (dat0 W c) 3 rfl (fun _ => rfl) (fun _ _ _ => rfl) (fun _ => rfl) t fun _ => rfl)
    (before_input c (dat0 W c) 4 rfl (fun _ => rfl) (fun _ _ _ => rfl) (fun _ => rfl) t fun _ => rfl)
    (y0 := (dat0 W c).after 0 t) (y1 := (dat0 W c).after 1 t) (y2 := (dat0 W c).after 2 t) (y3 := (dat0 W c).after 3 t) (y4 := (dat0 W c).after 4 t) (y5 := (dat0 W c).after 5 t) (y6 := (dat0 W c).after 6 t)
    ?_ ?_ ?_ ?_ ?_ ?_ ?_) rfl .rfl fun _ => .rfl
  all_goals dsimp only [dat0]

/-- Stage 1's body meets its proof data at every point. -/
theorem obligation1 : BodyObligation (dat1 W c) (defs₀ (F := F)) Variants.none () Set.univ := fun t => by
  rw [bigSep_W1, bigSep_W1, row1, show bodyAt1 (F := F) t = _ from cc1_eq ..]
  refine triple_restated (stage_triple c k1_pay3 k1_new _ _ _ _ _ _ _ _ _
    (blockAt W c cfg1 0 t) (blockAt W c cfg1 1 t) (blockAt W c cfg1 2 t) (blockAt W c cfg1 3 t) (blockAt W c cfg1 4 t)
    (before_input c (dat1 W c) 0 rfl (fun _ => rfl) (fun _ _ _ => rfl) (fun _ => rfl) t fun _ => rfl)
    (before_input c (dat1 W c) 1 rfl (fun _ => rfl) (fun _ _ _ => rfl) (fun _ => rfl) t fun _ => rfl)
    (before_input c (dat1 W c) 2 rfl (fun _ => rfl) (fun _ _ _ => rfl) (fun _ => rfl) t fun _ => rfl)
    (before_input c (dat1 W c) 3 rfl (fun _ => rfl) (fun _ _ _ => rfl) (fun _ => rfl) t fun _ => rfl)
    (before_input c (dat1 W c) 4 rfl (fun _ => rfl) (fun _ _ _ => rfl) (fun _ => rfl) t fun _ => rfl)
    (y0 := (dat1 W c).after 0 t) (y1 := (dat1 W c).after 1 t) (y2 := (dat1 W c).after 2 t) (y3 := (dat1 W c).after 3 t) (y4 := (dat1 W c).after 4 t) (y5 := (dat1 W c).after 5 t) (y6 := (dat1 W c).after 6 t)
    ?_ ?_ ?_ ?_ ?_ ?_ ?_) rfl .rfl fun _ => .rfl
  all_goals dsimp only [dat1]

/-- Stage 2's body meets its proof data at every point. -/
theorem obligation2 : BodyObligation (dat2 W c) (defs₀ (F := F)) Variants.none () Set.univ := fun t => by
  rw [bigSep_W2, bigSep_W2, row2, show bodyAt2 (F := F) t = _ from cc2_eq ..]
  refine triple_restated (stage_triple c k2_pay3 k2_new _ _ _ _ _ _ _ _ _
    (blockAt W c cfg2 0 t) (blockAt W c cfg2 1 t) (blockAt W c cfg2 2 t) (blockAt W c cfg2 3 t) (blockAt W c cfg2 4 t)
    (before_input c (dat2 W c) 0 rfl (fun _ => rfl) (fun _ _ _ => rfl) (fun _ => rfl) t fun _ => rfl)
    (before_input c (dat2 W c) 1 rfl (fun _ => rfl) (fun _ _ _ => rfl) (fun _ => rfl) t fun _ => rfl)
    (before_input c (dat2 W c) 2 rfl (fun _ => rfl) (fun _ _ _ => rfl) (fun _ => rfl) t fun _ => rfl)
    (before_input c (dat2 W c) 3 rfl (fun _ => rfl) (fun _ _ _ => rfl) (fun _ => rfl) t fun _ => rfl)
    (before_input c (dat2 W c) 4 rfl (fun _ => rfl) (fun _ _ _ => rfl) (fun _ => rfl) t fun _ => rfl)
    (y0 := (dat2 W c).after 0 t) (y1 := (dat2 W c).after 1 t) (y2 := (dat2 W c).after 2 t) (y3 := (dat2 W c).after 3 t) (y4 := (dat2 W c).after 4 t) (y5 := (dat2 W c).after 5 t) (y6 := (dat2 W c).after 6 t)
    ?_ ?_ ?_ ?_ ?_ ?_ ?_) rfl .rfl fun _ => .rfl
  all_goals dsimp only [dat2]

end Cert.Rvq

end
-- ==== Proof.LastBody.lean ====
/- The last stage's body: the stage of `StageBody` with the quantised vector in the residual's place, and a 1×1 cell in
   which the sum of squares is accumulated over the grid. -/
module

public import proofs.«01_k».proof.Proof.StageBody

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev rOne : Rect S1x1 := Rect.unit (s := S1x1) ![0, 0] S1x1.size inb_S1x1_S1x1_0_0

/-- What the last stage stores as z_q_st: of what it loads, the original vectors last. -/
def k3_out (v0 : Vec F S2048x64 .f32) (v2 : Vec F S2048x1 .f32) (v4 : Vec F S1x1024x64 .f32) (v6 : Vec F S1x1x1024 .f32)
    (v37 : Vec F S1x768x256 .bf16) (v72 : Vec F S2048x64 .f32) : FVec F S2048x64 .f32 :=
  k3_pay8 (k3_pay3 v0) (k3_pay5 v0 v2 v4 v6) (k3_pay6 v0 v2 v4 v6) v37 v72

/-- The block's own sum of squares, of the same. -/
def k3_part (v0 : Vec F S2048x64 .f32) (v2 : Vec F S2048x1 .f32) (v4 : Vec F S1x1024x64 .f32) (v6 : Vec F S1x1x1024 .f32)
    (v37 : Vec F S1x768x256 .bf16) (v72 : Vec F S2048x64 .f32) : FVec F S1x1 .f32 :=
  k3_pay9 (k3_pay3 v0) (k3_pay5 v0 v2 v4 v6) (k3_pay6 v0 v2 v4 v6) v37 v72

/-- One store through the whole rectangle covers the 1×1 cell. -/
theorem cover_one (p : Vec F S1x1 .f32) (y : S1x1.Idx) :
    ∃ pc ∈ ([⟨rOne, p⟩] : List (View.Piece (Elt F) S1x1 .f32)), y ∈ pc.1.set :=
  View.cover_of_tiled [⟨rOne, p⟩] S1x1.size (by rfl) y

section

variable (x0 : Vec F S2048x64 .f32) (x1 : Vec F S2048x1 .f32) (x2 : Vec F S1x1024x64 .f32) (x3 : Vec F S1x768x256 .bf16) (x4 : Vec F S1x1x1024 .f32)
  (x5 : Vec F S2048x64 .f32)

/-- What z_q_st's store leaves. -/
theorem canon_out :
    View.canon ([⟨rRes, k3_out (View.ld x0 rRes) (View.ld x1 rCol) (View.ld x2 rBook) (View.ld x4 rNorm) (View.ld x3 rPlane) (View.ld x5 rRes)⟩] : List (View.Piece (Elt F) S2048x64 .f32))
      = k3_out x0 x1 x2 x4 x3 x5 := by
  refine (View.canon_cons_unit_lit _ _ _ (by decide)).trans ?_
  congr 1 <;> exact View.ld_unit_lit _ _ (by decide)

/-- What the 1×1 store leaves, for a stored value `g` of the block's sum of squares. -/
theorem canon_loss (g : FVec F S1x1 .f32 → FVec F S1x1 .f32) :
    View.canon ([⟨rOne, g (k3_part (View.ld x0 rRes) (View.ld x1 rCol) (View.ld x2 rBook) (View.ld x4 rNorm) (View.ld x3 rPlane) (View.ld x5 rRes))⟩] : List (View.Piece (Elt F) S1x1 .f32))
      = g (k3_part x0 x1 x2 x4 x3 x5) := by
  refine (View.canon_cons_unit_lit _ _ _ (by decide)).trans ?_
  congr 2 <;> exact View.ld_unit_lit _ _ (by decide)

end

set_option maxHeartbeats 4000000 in
/-- The last stage's triple. At the first grid point the 1×1 cell, whatever it holds, is set to the block's sum of squares;
    at a middle point that sum is added to what the cell holds; at the last point it is added and the total scaled. -/
theorem last_triple (c : Dev nD) (i : grid3.Coords) (Φ O : sProp 𝕄)
    (a1 : Memref sig .tc .vmem S2048x64 .f32) (w1 : a1.IsWhole) (a2 : Memref sig .tc .vmem S2048x1 .f32) (w2 : a2.IsWhole)
    (a3 : Memref sig .tc .vmem S1x1024x64 .f32) (w3 : a3.IsWhole) (a4 : Memref sig .tc .vmem S1x768x256 .bf16) (w4 : a4.IsWhole)
    (a5 : Memref sig .tc .vmem S1x1x1024 .f32) (w5 : a5.IsWhole) (a6 : Memref sig .tc .vmem S2048x64 .f32) (w6 : a6.IsWhole)
    (a7 : Memref sig .tc .vmem S2048x1 .i32) (w7 : a7.IsWhole) (a8 : Memref sig .tc .vmem S2048x64 .f32) (w8 : a8.IsWhole)
    (a9 : Memref sig .tc .vmem S1x1 .f32) (w9 : a9.IsWhole)
    (x0 : Vec F S2048x64 .f32) (x1 : Vec F S2048x1 .f32) (x2 : Vec F S1x1024x64 .f32) (x3 : Vec F S1x768x256 .bf16) (x4 : Vec F S1x1x1024 .f32)
    (x5 : Vec F S2048x64 .f32)
    {D0 D1 D2 D3 D4 D5 D6 D7 D8 : Type} {b0 : D0 → Vec F S2048x64 .f32} {b1 : D1 → Vec F S2048x1 .f32} {b2 : D2 → Vec F S1x1024x64 .f32}
    {b3 : D3 → Vec F S1x768x256 .bf16} {b4 : D4 → Vec F S1x1x1024 .f32} {b5 : D5 → Vec F S2048x64 .f32} {b6 : D6 → Vec F S2048x1 .i32}
    {b7 : D7 → Vec F S2048x64 .f32} {b8 : D8 → Vec F S1x1 .f32}
    (e0 : ∀ d, b0 d = x0) (e1 : ∀ d, b1 d = x1) (e2 : ∀ d, b2 d = x2) (e3 : ∀ d, b3 d = x3) (e4 : ∀ d, b4 d = x4) (e5 : ∀ d, b5 d = x5)
    {y0 : Vec F S2048x64 .f32} {y1 : Vec F S2048x1 .f32} {y2 : Vec F S1x1024x64 .f32} {y3 : Vec F S1x768x256 .bf16} {y4 : Vec F S1x1x1024 .f32}
    {y5 : Vec F S2048x64 .f32} {y6 : Vec F S2048x1 .i32} {y7 : Vec F S2048x64 .f32} {y8 : Vec F S1x1 .f32}
    (g0 : y0 = x0) (g1 : y1 = x1) (g2 : y2 = x2) (g3 : y3 = x3) (g4 : y4 = x4) (g5 : y5 = x5)
    (g6 : y6 = k3_pay4 x0 x1 x2 x4) (g7 : y7 = k3_out x0 x1 x2 x4 x3 x5)
    (hcase : (k3_cond1 i = 1#1 ∧ ¬ k3_cond2 i = 1#1 ∧ ¬ k3_cond3 i = 1#1 ∧ y8 = k3_part x0 x1 x2 x4 x3 x5)
      ∨ (¬ k3_cond1 i = 1#1 ∧ k3_cond2 i = 1#1 ∧ ¬ k3_cond3 i = 1#1 ∧ ∀ d, y8 = k3_pay1 (k3_part x0 x1 x2 x4 x3 x5) (b8 d))
      ∨ (¬ k3_cond1 i = 1#1 ∧ ¬ k3_cond2 i = 1#1 ∧ k3_cond3 i = 1#1 ∧ ∀ d, y8 = k3_pay2 (k3_part x0 x1 x2 x4 x3 x5) (b8 d))) :
    iprop(Φ ∗ O ∗ (∃ d, owns (c : Thread nD τ) a1 fullShare (b0 d)) ∗ (∃ d, owns (c : Thread nD τ) a2 fullShare (b1 d))
        ∗ (∃ d, owns (c : Thread nD τ) a3 fullShare (b2 d)) ∗ (∃ d, owns (c : Thread nD τ) a4 fullShare (b3 d))
        ∗ (∃ d, owns (c : Thread nD τ) a5 fullShare (b4 d)) ∗ (∃ d, owns (c : Thread nD τ) a6 fullShare (b5 d))
        ∗ (∃ d, owns (c : Thread nD τ) a7 fullShare (b6 d)) ∗ (∃ d, owns (c : Thread nD τ) a8 fullShare (b7 d))
        ∗ (∃ d, owns (c : Thread nD τ) a9 fullShare (b8 d)))
      ⊢ wp frame (wpE (defs₀ (F := F)) Variants.none c none) Set.univ (cc3__stage_body i a1 w1 a2 w2 a3 w3 a4 w4 a5 w5 a6 w6 a7 w7 a8 w8 a9 w9) (fun _ =>
        iprop(Φ ∗ O ∗ owns (c : Thread nD τ) a1 fullShare y0 ∗ owns (c : Thread nD τ) a2 fullShare y1 ∗ owns (c : Thread nD τ) a3 fullShare y2
          ∗ owns (c : Thread nD τ) a4 fullShare y3 ∗ owns (c : Thread nD τ) a5 fullShare y4 ∗ owns (c : Thread nD τ) a6 fullShare y5
          ∗ owns (c : Thread nD τ) a7 fullShare y6 ∗ owns (c : Thread nD τ) a8 fullShare y7 ∗ owns (c : Thread nD τ) a9 fullShare y8)) := by
  subst g0 g1 g2 g3 g4 g5
  simp only [e0, e1, e2, e3, e4, e5]
  rw [← canon_idx k3_pay4] at g6
  rw [← canon_out] at g7
  rw [cc3__stage_body_eq_skeleton]; unfold cc3__stage_body_skel
  simp only [k3_part1_eq_skeleton, k3_part2_eq_skeleton]
  unfold owns
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩, ⟨%d7, %f7, -, H7⟩, ⟨%d8, %f8, %hf8, H8⟩⟩
  have hg : ∃ g : FVec F S1x1 .f32 → FVec F S1x1 .f32, y8 = g (k3_part y0 y1 y2 y4 y3 y5) ∧
      ((k3_cond1 i = 1#1 ∧ ¬ k3_cond2 i = 1#1 ∧ ¬ k3_cond3 i = 1#1 ∧ (fun p => p) = g)
      ∨ (¬ k3_cond1 i = 1#1 ∧ k3_cond2 i = 1#1 ∧ ¬ k3_cond3 i = 1#1 ∧ (fun p => k3_pay1 p (View.ld (a9.view.read (Elt F) f8) rOne)) = g)
      ∨ (¬ k3_cond1 i = 1#1 ∧ ¬ k3_cond2 i = 1#1 ∧ k3_cond3 i = 1#1 ∧ (fun p => k3_pay2 p (View.ld (a9.view.read (Elt F) f8) rOne)) = g)) := by
    rw [View.ld_unit_lit _ _ (by decide), hf8]
    rcases hcase with ⟨h1, h2, h3, h⟩ | ⟨h1, h2, h3, h⟩ | ⟨h1, h2, h3, h⟩
    · exact ⟨_, h, .inl ⟨h1, h2, h3, rfl⟩⟩
    · exact ⟨_, h d8, .inr (.inl ⟨h1, h2, h3, rfl⟩)⟩
    · exact ⟨_, h d8, .inr (.inr ⟨h1, h2, h3, rfl⟩)⟩
  clear hcase hf8
  obtain ⟨g, g8, hg⟩ := hg
  rw [← canon_loss _ _ _ _ _ _ g] at g8
  subst hf0 hf1 hf2 hf3 hf4 hf5 g6 g7 g8
  rcases hg with ⟨hc0, hc1, hc2, rfl⟩ | ⟨hc0, hc1, hc2, rfl⟩ | ⟨hc0, hc1, hc2, rfl⟩
  all_goals
    sl_exec (disch := first | sl_exact hc0 | sl_exact hc1 | sl_exact hc2)
    sl_step
    isplitl [HΦ]; · iexact HΦ
    isplitl [HO]; · iexact HO
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact View.read_writes_eq_canon _ _ _ (cover_col _)
    isplitl [H7]
    · iexists _; isplitr
      swap; · iexact H7
      ipureintro
      exact View.read_writes_eq_canon _ _ _ (cover_res _)
    iexists _; isplitr
    swap; · iexact H8
    ipureintro
    exact View.read_writes_eq_canon _ _ _ (cover_one _)

end Cert.Rvq

end
-- ==== Proof.LastStage.lean ====
/- The last pipeline: what it leaves at every grid point, and that its body does so. Over any valuation `W` of the device's
   buffers at the region's entry, as `Stages`. -/
module

public import proofs.«01_k».proof.Proof.Stages
public import proofs.«01_k».proof.Proof.LastBody

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F)) (c : Dev nD)

/-- The block's own sum of squares at point `t`. -/
def partAt (t : Fin cfg3.N) : FVec F S1x1 .f32 :=
  k3_part (blockAt W c cfg3 0 t) (blockAt W c cfg3 1 t) (blockAt W c cfg3 2 t) (blockAt W c cfg3 4 t) (blockAt W c cfg3 3 t) (blockAt W c cfg3 5 t)

/-- Grid point `n`, as a point of the last grid (its number taken modulo the 8 points). -/
def pointAt (n : ℕ) : Fin cfg3.N := ⟨n % 8, lt_of_lt_of_eq (Nat.mod_lt _ (by decide)) N_3.symm⟩

theorem pointAt_val (t : Fin cfg3.N) : pointAt t.val = t :=
  Fin.ext (Nat.mod_eq_of_lt (lt_of_lt_of_eq t.isLt N_3))

/-- What the 1×1 cell holds after point `n`: the first block's sum, then each later block's added, the last time scaled. -/
def cellAfter : ℕ → FVec F S1x1 .f32
  | 0 => partAt W c (pointAt 0)
  | n + 1 => if n + 1 = 7 then k3_pay2 (partAt W c (pointAt (n + 1))) (cellAfter n) else k3_pay1 (partAt W c (pointAt (n + 1))) (cellAfter n)

/-- Proof data of the last stage. -/
def dat3 : PDat (F := F) cfg3 c where
  A w := W c (Proc.devRef .tc (Pipeline.arrRef spec3 w))
  after w t := match w with
    | ⟨0, _⟩ => blockAt W c cfg3 0 t
    | ⟨1, _⟩ => blockAt W c cfg3 1 t
    | ⟨2, _⟩ => blockAt W c cfg3 2 t
    | ⟨3, _⟩ => blockAt W c cfg3 3 t
    | ⟨4, _⟩ => blockAt W c cfg3 4 t
    | ⟨5, _⟩ => blockAt W c cfg3 5 t
    | ⟨6, _⟩ => k3_pay4 (blockAt W c cfg3 0 t) (blockAt W c cfg3 1 t) (blockAt W c cfg3 2 t) (blockAt W c cfg3 4 t)
    | ⟨7, _⟩ => k3_out (blockAt W c cfg3 0 t) (blockAt W c cfg3 1 t) (blockAt W c cfg3 2 t) (blockAt W c cfg3 4 t) (blockAt W c cfg3 3 t) (blockAt W c cfg3 5 t)
    | ⟨8, _⟩ => cellAfter W c t.val
  Φ _ := Pipeline.ΦA spec3 c
  q _ := fullShare
  owed _ := 0

theorem after3_8 (t : Fin cfg3.N) : (dat3 W c).after 8 t = cellAfter W c t.val := by dsimp only [dat3]

theorem row3 (t : Fin cfg3.N) : defs₀ (F := F) .tc cfg3.body (cfg3.bodyArgs t (cfg3.slots t)) = bodyAt3 t := by
  unfold defs₀; rw [Defs.onTc_tc]

/-- The first conditional of the body holds at the first point only. -/
theorem first_iff (i : grid3.Coords) : k3_cond1 i = 1#1 ↔ (i 0).val = 0 := by
  have hi : (i 0).val < 8 := (i 0).isLt
  simp only [k3_cond1]
  word_cmp
/-- The second at the points between the first and the last. -/
theorem middle_iff (i : grid3.Coords) : k3_cond2 i = 1#1 ↔ (1 ≤ (i 0).val ∧ (i 0).val ≤ 6) := by
  have hi : (i 0).val < 8 := (i 0).isLt
  simp only [k3_cond2]
  word_cmp
/-- The third at the last only. -/
theorem final_iff (i : grid3.Coords) : k3_cond3 i = 1#1 ↔ (i 0).val = 7 := by
  have hi : (i 0).val < 8 := (i 0).isLt
  simp only [k3_cond3]
  word_cmp

theorem coord_val (t : Fin cfg3.N) : (grid3.coords t 0).val = t.val := by
  have ht : t.val < 8 := lt_of_lt_of_eq t.isLt N_3
  have e : (grid3.coords t 0).val = t.val / 1 % 8 := Pipeline.Grid.coords_val t 0 (by decide) rfl
  omega

/-- One of the three always holds: the body stores to the 1×1 cell at every point. -/
theorem cell_live (i : grid3.Coords) : cfg3.idle 8 i = false := by
  have hi : (i 0).val < 8 := (i 0).isLt
  have h1 := first_iff i
  have h2 := middle_iff i
  have h3 := final_iff i
  show (!(k3_cond1 i == 1#1) && !(k3_cond2 i == 1#1) && !(k3_cond3 i == 1#1)) = false
  by_cases c1 : k3_cond1 i = 1#1
  · rw [c1]; rfl
  by_cases c2 : k3_cond2 i = 1#1
  · rw [c2]; exact congrArg (fun b => b && _) (Bool.and_false _)
  have c3 : k3_cond3 i = 1#1 := h3.mpr (by rw [h1] at c1; rw [h2] at c2; omega)
  rw [c3]
  exact Bool.and_false _

/-- After the first point the 1×1 cell is handed to the body as the point before left it. -/
theorem before_cell (t : Fin cfg3.N) (n : ℕ) (ht : t.val = n + 1) (d) : (dat3 W c).before 8 t d = cellAfter W c n := by
  have hN : t.val < 8 := lt_of_lt_of_eq t.isLt N_3
  refine ((dat3 W c).before_out_kept 8 rfl t (by omega) ?_ cell_live (fun _ _ => rfl) d).trans ?_
  · by_contra hb
    have := (flush3_8 ⟨t.val - 1, _⟩).mp (Bool.not_eq_false _ ▸ hb)
    dsimp only at this
    omega
  · rw [after3_8]
    exact congrArg (cellAfter W c) (show t.val - 1 = n by omega)

/-- The last stage's body meets its proof data at every point. -/
theorem obligation3 : BodyObligation (dat3 W c) (defs₀ (F := F)) Variants.none () Set.univ := fun t => by
  have hN : t.val < 8 := lt_of_lt_of_eq t.isLt N_3
  rw [bigSep_W3, bigSep_W3, row3]
  refine triple_restated (last_triple c (grid3.coords t) _ _ _ _ _ _ _ _ _ _ _ _ _ _ _ _ _ _ _ _
    (blockAt W c cfg3 0 t) (blockAt W c cfg3 1 t) (blockAt W c cfg3 2 t) (blockAt W c cfg3 3 t) (blockAt W c cfg3 4 t) (blockAt W c cfg3 5 t)
    (before_input c (dat3 W c) 0 rfl (fun _ => rfl) (fun _ _ _ => rfl) (fun _ => rfl) t fun _ => rfl)
    (before_input c (dat3 W c) 1 rfl (fun _ => rfl) (fun _ _ _ => rfl) (fun _ => rfl) t fun _ => rfl)
    (before_input c (dat3 W c) 2 rfl (fun _ => rfl) (fun _ _ _ => rfl) (fun _ => rfl) t fun _ => rfl)
    (before_input c (dat3 W c) 3 rfl (fun _ => rfl) (fun _ _ _ => rfl) (fun _ => rfl) t fun _ => rfl)
    (before_input c (dat3 W c) 4 rfl (fun _ => rfl) (fun _ _ _ => rfl) (fun _ => rfl) t fun _ => rfl)
    (before_input c (dat3 W c) 5 rfl (fun _ => rfl) (fun _ _ _ => rfl) (fun _ => rfl) t fun _ => rfl)
    (y0 := (dat3 W c).after 0 t) (y1 := (dat3 W c).after 1 t) (y2 := (dat3 W c).after 2 t) (y3 := (dat3 W c).after 3 t) (y4 := (dat3 W c).after 4 t)
    (y5 := (dat3 W c).after 5 t) (y6 := (dat3 W c).after 6 t) (y7 := (dat3 W c).after 7 t) (y8 := (dat3 W c).after 8 t)
    (b8 := (dat3 W c).before 8 t)
    ?_ ?_ ?_ ?_ ?_ ?_ ?_ ?_ ?_) rfl .rfl fun _ => ?_
  · dsimp only [dat3]
  · dsimp only [dat3]
  · dsimp only [dat3]
  · dsimp only [dat3]
  · dsimp only [dat3]
  · dsimp only [dat3]
  · dsimp only [dat3]
  · dsimp only [dat3]
  · rw [first_iff, middle_iff, final_iff, coord_val, after3_8]
    change _ ∧ _ ∧ _ ∧ _ = partAt W c t ∨ _ ∧ _ ∧ _ ∧ (∀ d, _ = k3_pay1 (partAt W c t) _) ∨ _ ∧ _ ∧ _ ∧ (∀ d, _ = k3_pay2 (partAt W c t) _)
    rcases ht : t.val with _ | n
    · refine .inl ⟨rfl, by omega, by omega, ?_⟩
      rw [cellAfter, ← ht, pointAt_val]
    · have hb := before_cell W c t n ht
      by_cases h7 : n + 1 = 7
      · refine .inr (.inr ⟨by omega, by omega, h7, fun d => ?_⟩)
        rw [hb, cellAfter, if_pos h7, ← ht, pointAt_val]
      · refine .inr (.inl ⟨by omega, by omega, h7, fun d => ?_⟩)
        rw [hb, cellAfter, if_neg h7, ← ht, pointAt_val]
  · have hl : cfg3.idle 8 (cfg3.grid.coords t) = false := cell_live _
    rw [hl]
    exact .rfl

end Cert.Rvq

end
-- ==== Proof.Run.lean ====
/- The run of @main: the host lines and the four pipelines in order, and what every buffer of the device holds at the end.

   Over any float values; at the end every buffer outside the pipelines' scratch holds a pure term, `final`. -/
module

public import proofs.«01_k».proof.Proof.LastStage
public import proofs.«01_k».proof.Proof.Gen.KernelIdeal.Regions

@[expose] public section

set_option maxRecDepth 16384

noncomputable section

namespace Cert.Rvq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg afterRegion)

variable {F : FTy → Type} [FloatOps F]

local notation "𝕄" => MT nD τ sig Unit (Elt F) ℕ (UR sig nD τ) ℕ

/-! ## The buffers between the items of @main -/

section Values

variable (m : (ℓ : Loc nD τ sig) → Buf (Elt F) ℓ)

/-- After the first host line: the codebook's norms, its planes, the first residual's norms. -/
def entry0 (c : Dev nD) : Valuation τ sig (Elt F) := StableHlo.after hostOps0 (V0 m c)
/-- After stage 0. -/
def exit0 (c : Dev nD) : Valuation τ sig (Elt F) := afterRegion (dat0 (entry0 m) c) (entry0 m c)
/-- After the second residual's norms. -/
def entry1 (c : Dev nD) : Valuation τ sig (Elt F) := StableHlo.after hostOps1 (exit0 m c)
/-- After stage 1. -/
def exit1 (c : Dev nD) : Valuation τ sig (Elt F) := afterRegion (dat1 (entry1 m) c) (entry1 m c)
/-- After the third residual's norms. -/
def entry2 (c : Dev nD) : Valuation τ sig (Elt F) := StableHlo.after hostOps2 (exit1 m c)
/-- After stage 2. -/
def exit2 (c : Dev nD) : Valuation τ sig (Elt F) := afterRegion (dat2 (entry2 m) c) (entry2 m c)
/-- After the fourth residual's norms. -/
def entry3 (c : Dev nD) : Valuation τ sig (Elt F) := StableHlo.after hostOps3 (exit2 m c)
/-- After stage 3. -/
def exit3 (c : Dev nD) : Valuation τ sig (Elt F) := afterRegion (dat3 (entry3 m) c) (entry3 m c)
/-- At the end: the indices side by side and the loss taken off its 1×1 array. -/
def final (c : Dev nD) : Valuation τ sig (Elt F) := StableHlo.after hostOps4 (exit3 m c)

end Values

/-! ## The items as segments -/

/-- The four pipelines' proof data, each over the buffers as its stage finds them. -/
abbrev dats (m : (ℓ : Loc nD τ sig) → Buf (Elt F) ℓ) : (p : Fin 4) → (c : Dev nD) → PDat (F := F) (cfgs p) c
  | 0 => dat0 (entry0 m)
  | 1 => dat1 (entry1 m)
  | 2 => dat2 (entry2 m)
  | 3 => dat3 (entry3 m)
  | ⟨_ + 4, h⟩ => absurd h (Nat.not_lt.2 (Nat.le_add_left _ _))

/-- The staging waits' index, assigned at every semaphore of a TensorCore. -/
def waits (g : GSem nD τ sig) : Finset Unit := if g.1.2 = .tc then {()} else ∅
/-- Every wait is at level 0. -/
def level (_ : GSem nD τ sig) (_ : Unit) : ℕ := 0

/-- What rides beside the buffers: the core owes nothing, and the generator register holds something. -/
abbrev beside (c : Dev nD) : sProp 𝕄 :=
  iprop((∃ Wd, owes (c : Thread nD τ) (0 : CellTallies nD τ sig Unit) Wd) ∗ (∃ r, prngReg c r) ∗ emp)

/-- The state of core `c` between two items: every unscoped buffer at `V`, beside the rest. -/
abbrev state (V : Dev nD → Valuation τ sig (Elt F)) (c : Dev nD) : sProp 𝕄 :=
  iprop(StableHlo.held (c : Thread nD τ) (Pipeline.ucRefs τ sig) (V c) ∗ beside c)

/-- A line of host operations, from the buffers at `V`. -/
def hostSeg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := UR sig nD τ) (Lvl := ℕ) (pcfgs (F := F)) defs₀ Variants.none waits level :=
  HostSeg.ofOps _ _ _ _ _ (Pipeline.ucRefs τ sig) ops
    (fun op h => Pipeline.sub_ucRefs op ((List.forall_iff_forall_mem.mp hs) op h))
    (fun op h => (List.forall_iff_forall_mem.mp hf) op h) V beside

theorem cut (m : (ℓ : Loc nD τ sig) → Buf (Elt F) ℓ) (p : Fin 4) :
    Pipeline.LevelCut (pcfgs (F := F)) adm () waits level p (fun _ => 0) (fun _ => 0) where
  hι c w s := by
    unfold waits
    rw [if_pos rfl]
    exact Finset.mem_singleton.mpr rfl
  hιb c w s := le_refl 0
  hD c g i h := absurd h (Nat.lt_irrefl 0)

/-- Stage `p` as a segment, from the buffers at `V`, over its proof data. -/
def stageSeg (m : (ℓ : Loc nD τ sig) → Buf (Elt F) ℓ) (p : Fin 4) (kit : Pipeline.LaunchFacts (nD := nD) (τ := τ) cfgs p)
    (hbody : ∀ c, BodyObligation (dats m p c) (defs₀ (F := F)) Variants.none () Set.univ)
    (howed : ∀ c t, (dats m p c).owed t = 0) (hrec : ∀ c, (dats m p c).recorded 0 = Set.univ) (hq : ∀ c w, (dats m p c).q w = fullShare)
    (hΦ : ∀ c t, (dats m p c).Φ t = Pipeline.ΦA (cfgs p).spec c)
    (V : Dev nD → Valuation τ sig (Elt F))
    (hV : ∀ c w, (dats m p c).arrAt w 0 = V c (Proc.devRef .tc (Pipeline.arrRef (cfgs p).spec w))) :
    RegionSeg (pcfgs (F := F)) adm (dats m) () defs₀ Variants.none waits level p :=
  Pipeline.RegionSeg.ofHeldIn (pcfgs (F := F)) adm (dats m) () defs₀ Variants.none waits level p (fun _ => 0)
    (Pipeline.ucRefs τ sig) (fun c => iprop(∃ r, prngReg c r)) (fun c => iprop(∃ r, prngReg c r)) kit.toP rfl
    (fun c => (hbody c).loose) howed hrec (fun c w => (dats m p c).share_full (hq c) w)
    (fun c => by rw [hΦ]; exact .rfl) (fun c => by rw [hΦ]; exact .rfl) (fun _ => 0) (cut m p) (fun _ => iprop(emp)) V hV

/-- The arrays of every pipeline lie outside the pipelines' scratch. -/
theorem arrays_sub (p : Fin 4) (kit : Pipeline.LaunchFacts (nD := nD) (τ := τ) cfgs p) :
    Pipeline.arrRefs (τ := τ) (pcfgs (F := F) p).spec ⊆ Pipeline.ucRefs τ sig :=
  Pipeline.arrRefs_sub_ucRefs _ kit.win.arr_unscoped

/-- A stage is entered from the state between items. -/
theorem stage_enter (m : (ℓ : Loc nD τ sig) → Buf (Elt F) ℓ) (p : Fin 4) (kit : Pipeline.LaunchFacts (nD := nD) (τ := τ) cfgs p)
    (hbody : ∀ c, BodyObligation (dats m p c) (defs₀ (F := F)) Variants.none () Set.univ)
    (howed : ∀ c t, (dats m p c).owed t = 0) (hrec : ∀ c, (dats m p c).recorded 0 = Set.univ) (hq : ∀ c w, (dats m p c).q w = fullShare)
    (hΦ : ∀ c t, (dats m p c).Φ t = Pipeline.ΦA (cfgs p).spec c)
    (V : Dev nD → Valuation τ sig (Elt F))
    (hV : ∀ c w, (dats m p c).arrAt w 0 = V c (Proc.devRef .tc (Pipeline.arrRef (cfgs p).spec w))) (c : Dev nD) : state V c ⊢ (stageSeg m p kit hbody howed hrec hq hΦ V hV).pre c :=
  Pipeline.RegionSeg.ofHeldIn_pre (D := fun _ => 0) (X := fun c => iprop(∃ r, prngReg c r)) (Y := fun c => iprop(∃ r, prngReg c r))
    (R := fun _ => iprop(emp)) (W := V) (hW := hV) (arrays_sub p kit) c

/-- It leaves the arrays as its proof data compute them, every other buffer as it was. -/
theorem stage_leave (m : (ℓ : Loc nD τ sig) → Buf (Elt F) ℓ) (p : Fin 4) (kit : Pipeline.LaunchFacts (nD := nD) (τ := τ) cfgs p)
    (hbody : ∀ c, BodyObligation (dats m p c) (defs₀ (F := F)) Variants.none () Set.univ)
    (howed : ∀ c t, (dats m p c).owed t = 0) (hrec : ∀ c, (dats m p c).recorded 0 = Set.univ) (hq : ∀ c w, (dats m p c).q w = fullShare)
    (hΦ : ∀ c t, (dats m p c).Φ t = Pipeline.ΦA (cfgs p).spec c)
    (V : Dev nD → Valuation τ sig (Elt F))
    (hV : ∀ c w, (dats m p c).arrAt w 0 = V c (Proc.devRef .tc (Pipeline.arrRef (cfgs p).spec w))) (c : Dev nD) : (stageSeg m p kit hbody howed hrec hq hΦ V hV).post c ⊢ state (fun c => afterRegion (dats m p c) (V c)) c :=
  Pipeline.RegionSeg.ofHeldIn_post (arrays_sub p kit) c

section Run

variable (m : (ℓ : Loc nD τ sig) → Buf (Elt F) ℓ) (ρ : Dev nD → PrngReg)

abbrev reg0 : RegionSeg (pcfgs (F := F)) adm (dats m) () defs₀ Variants.none waits level 0 :=
  stageSeg m 0 launch0 (obligation0 (entry0 m)) (fun _ _ => rfl) (fun _ => rfl) (fun _ _ => rfl) (fun _ _ => rfl) (entry0 m) (fun _ _ => rfl)
abbrev reg1 : RegionSeg (pcfgs (F := F)) adm (dats m) () defs₀ Variants.none waits level 1 :=
  stageSeg m 1 launch1 (obligation1 (entry1 m)) (fun _ _ => rfl) (fun _ => rfl) (fun _ _ => rfl) (fun _ _ => rfl) (entry1 m) (fun _ _ => rfl)
abbrev reg2 : RegionSeg (pcfgs (F := F)) adm (dats m) () defs₀ Variants.none waits level 2 :=
  stageSeg m 2 launch2 (obligation2 (entry2 m)) (fun _ _ => rfl) (fun _ => rfl) (fun _ _ => rfl) (fun _ _ => rfl) (entry2 m) (fun _ _ => rfl)
abbrev reg3 : RegionSeg (pcfgs (F := F)) adm (dats m) () defs₀ Variants.none waits level 3 :=
  stageSeg m 3 launch3 (obligation3 (entry3 m)) (fun _ _ => rfl) (fun _ => rfl) (fun _ _ => rfl) (fun _ _ => rfl) (entry3 m) (fun _ _ => rfl)

theorem enter0 (c : Dev nD) : state (entry0 m) c ⊢ (reg0 m).pre c := stage_enter m 0 launch0 _ _ _ _ _ _ _ c
theorem leave0 (c : Dev nD) : (reg0 m).post c ⊢ state (exit0 m) c := stage_leave m 0 launch0 _ _ _ _ _ _ _ c

theorem enter1 (c : Dev nD) : state (entry1 m) c ⊢ (reg1 m).pre c := stage_enter m 1 launch1 _ _ _ _ _ _ _ c
theorem leave1 (c : Dev nD) : (reg1 m).post c ⊢ state (exit1 m) c := stage_leave m 1 launch1 _ _ _ _ _ _ _ c

theorem enter2 (c : Dev nD) : state (entry2 m) c ⊢ (reg2 m).pre c := stage_enter m 2 launch2 _ _ _ _ _ _ _ c
theorem leave2 (c : Dev nD) : (reg2 m).post c ⊢ state (exit2 m) c := stage_leave m 2 launch2 _ _ _ _ _ _ _ c

theorem enter3 (c : Dev nD) : state (entry3 m) c ⊢ (reg3 m).pre c := stage_enter m 3 launch3 _ _ _ _ _ _ _ c
theorem leave3 (c : Dev nD) : (reg3 m).post c ⊢ state (exit3 m) c := stage_leave m 3 launch3 _ _ _ _ _ _ _ c

/-- @main's items in order. -/
abbrev items : List (Seg (pcfgs (F := F)) adm (dats m) () defs₀ Variants.none waits level) :=
  [.host (hostSeg hostOps0 hostOps0_sub hostOps0_fresh (V0 m)), .region (reg0 m),
   .host (hostSeg hostOps1 hostOps1_sub hostOps1_fresh (exit0 m)), .region (reg1 m),
   .host (hostSeg hostOps2 hostOps2_sub hostOps2_fresh (exit1 m)), .region (reg2 m),
   .host (hostSeg hostOps3 hostOps3_sub hostOps3_fresh (exit2 m)), .region (reg3 m),
   .host (hostSeg hostOps4 hostOps4_sub hostOps4_fresh (exit3 m))]

/-- The launch's ghost state lives in the rounds' resource alone. -/
def EP : Emb (UR sig nD τ) (MT nD τ sig Unit (Elt F) ℕ (UR sig nD τ) ℕ) :=
  (Emb.refl _).trans (uEmb (nD := nD) (sig := sig) (Ix := Unit) (Val := Elt F) (Name := ℕ) (U := UR sig nD τ) (Lvl := ℕ)).toEmb

instance : (EP (F := F)).LandsIn (upEmb : UEmb _ 𝕄) := by unfold EP; infer_instance

set_option backward.isDefEq.respectTransparency.types false in
/-- Every execution of @main ends, with every unscoped buffer at `final` and every semaphore at zero. -/
theorem run : θ_run (defs (F := F)) (onTc (τ := τ) (main (F := F))) ⟨m, fun _ => 0, ρ⟩ fun r =>
    (∀ (c : Dev nD) (b : Ref sig .tc), b.isScoped = false → r.2.mem ((c.tc : Thread nD τ).loc b) = final m c (Proc.devRef .tc b))
      ∧ r.2.sem = fun _ => 0 := by
  refine Pipeline.θ_run_regions_kit_dev_sems (pcfgs (F := F)) adm (dats m) () cellOf_inj EP defs₀ Variants.none waits level m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide) (fun _ => 0)
    (fun g h => if_neg h) (fun _ => iprop(emp)) (initOf (Pipeline.cells cfgs cellOf_inj) (Pipeline.launchToks cfgs cellOf_inj)) ?_
    (T₀ := state (V0 m))
    (Tₙ := fun c => StableHlo.held (c : Thread nD τ) (Pipeline.ucRefs τ sig) (final m c))
    (hch := fun c => ⟨.rfl,
      enter0 m c, leave0 m c,
      enter1 m c, leave1 m c,
      enter2 m c, leave2 m c,
      enter3 m c, leave3 m c,
      ?_⟩)
    (hinit := ?_)
    (QY := fun c s => ∀ b : Ref sig .tc, b.isScoped = false → s.mem ((c.tc : Thread nD τ).loc b) = final m c (Proc.devRef .tc b))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · refine sep_mono .rfl ?_
    iintro ⟨HO, -⟩
    iexact HO
  · refine Pipeline.initEach waits level fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (final m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

end Run

end Cert.Rvq

end
-- ==== Proof.Kept.lean ====
/- Both arguments end as launched: no host line and no pipeline writes one. -/
module

public import proofs.«01_k».proof.Proof.Run

@[expose] public section

set_option maxRecDepth 16384

noncomputable section

namespace Cert.Rvq

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (c : Dev nD) (r : Ref sig .tc)

theorem entry0_keeps (h : r ∉ hostOps0_W) : entry0 m c (Proc.devRef .tc r) = V0 m c (Proc.devRef .tc r) :=
  StableHlo.after_of_writes_sub hostOps0 _ hostOps0_writes h
theorem entry1_keeps (h : r ∉ hostOps1_W) : entry1 m c (Proc.devRef .tc r) = exit0 m c (Proc.devRef .tc r) :=
  StableHlo.after_of_writes_sub hostOps1 _ hostOps1_writes h
theorem entry2_keeps (h : r ∉ hostOps2_W) : entry2 m c (Proc.devRef .tc r) = exit1 m c (Proc.devRef .tc r) :=
  StableHlo.after_of_writes_sub hostOps2 _ hostOps2_writes h
theorem entry3_keeps (h : r ∉ hostOps3_W) : entry3 m c (Proc.devRef .tc r) = exit2 m c (Proc.devRef .tc r) :=
  StableHlo.after_of_writes_sub hostOps3 _ hostOps3_writes h
theorem final_keeps (h : r ∉ hostOps4_W) : final m c (Proc.devRef .tc r) = exit3 m c (Proc.devRef .tc r) :=
  StableHlo.after_of_writes_sub hostOps4 _ hostOps4_writes h

theorem exit0_keeps (h : ∀ w, Pipeline.arrRef spec0 w = r → (cfg0.win w).isOut = false) : exit0 m c (Proc.devRef .tc r) = entry0 m c (Proc.devRef .tc r) :=
  Pipeline.afterRegion_keeps (dat0 (entry0 m) c) _ winFacts0.arr_inj (fun _ => rfl) r h
theorem exit1_keeps (h : ∀ w, Pipeline.arrRef spec1 w = r → (cfg1.win w).isOut = false) : exit1 m c (Proc.devRef .tc r) = entry1 m c (Proc.devRef .tc r) :=
  Pipeline.afterRegion_keeps (dat1 (entry1 m) c) _ winFacts1.arr_inj (fun _ => rfl) r h
theorem exit2_keeps (h : ∀ w, Pipeline.arrRef spec2 w = r → (cfg2.win w).isOut = false) : exit2 m c (Proc.devRef .tc r) = entry2 m c (Proc.devRef .tc r) :=
  Pipeline.afterRegion_keeps (dat2 (entry2 m) c) _ winFacts2.arr_inj (fun _ => rfl) r h
theorem exit3_keeps (h : ∀ w, Pipeline.arrRef spec3 w = r → (cfg3.win w).isOut = false) : exit3 m c (Proc.devRef .tc r) = entry3 m c (Proc.devRef .tc r) :=
  Pipeline.afterRegion_keeps (dat3 (entry3 m) c) _ winFacts3.arr_inj (fun _ => rfl) r h

/-- The first argument is as launched when stage 1, 2, 3 begin, and at the end. -/
theorem entry0_arg0 : entry0 m c (Proc.devRef .tc main_arg0) = V0 m c (Proc.devRef .tc main_arg0) := entry0_keeps m c _ (by decide)
theorem entry3_arg0 : entry3 m c (Proc.devRef .tc main_arg0) = V0 m c (Proc.devRef .tc main_arg0) :=
  (entry3_keeps m c _ (by decide)).trans <| (exit2_keeps m c _ (by decide)).trans <| (entry2_keeps m c _ (by decide)).trans <|
    (exit1_keeps m c _ (by decide)).trans <| (entry1_keeps m c _ (by decide)).trans <| (exit0_keeps m c _ (by decide)).trans (entry0_arg0 m c)
theorem final_arg0 : final m c (Proc.devRef .tc main_arg0) = V0 m c (Proc.devRef .tc main_arg0) :=
  (final_keeps m c _ (by decide)).trans <| (exit3_keeps m c _ (by decide)).trans (entry3_arg0 m c)

/-- A buffer that only the first host line may write is at every stage what that line left (the codebook, its norms, its planes). -/
theorem entry1_shared (h1 : r ∉ hostOps1_W) (k0 : ∀ w, Pipeline.arrRef spec0 w = r → (cfg0.win w).isOut = false) :
    entry1 m c (Proc.devRef .tc r) = entry0 m c (Proc.devRef .tc r) := (entry1_keeps m c _ h1).trans (exit0_keeps m c _ k0)
theorem entry2_shared (h2 : r ∉ hostOps2_W) (k1 : ∀ w, Pipeline.arrRef spec1 w = r → (cfg1.win w).isOut = false) :
    entry2 m c (Proc.devRef .tc r) = entry1 m c (Proc.devRef .tc r) := (entry2_keeps m c _ h2).trans (exit1_keeps m c _ k1)
theorem entry3_shared (h3 : r ∉ hostOps3_W) (k2 : ∀ w, Pipeline.arrRef spec2 w = r → (cfg2.win w).isOut = false) :
    entry3 m c (Proc.devRef .tc r) = entry2 m c (Proc.devRef .tc r) := (entry3_keeps m c _ h3).trans (exit2_keeps m c _ k2)

/-- The codebook is as launched throughout. -/
theorem final_arg1 : final m c (Proc.devRef .tc main_arg1) = V0 m c (Proc.devRef .tc main_arg1) :=
  (final_keeps m c _ (by decide)).trans <| (exit3_keeps m c _ (by decide)).trans <| (entry3_shared m c _ (by decide) (by decide)).trans <|
    (entry2_shared m c _ (by decide) (by decide)).trans <| (entry1_shared m c _ (by decide) (by decide)).trans (entry0_keeps m c _ (by decide))

/-- The frame, at any float values: @main ends, both arguments as launched and every semaphore at zero. -/
theorem frame (ρ : Dev nD → PrngReg) : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (run m ρ).mono fun r h => ⟨fun c => ⟨(h.1 c main_arg0 rfl).trans (final_arg0 m c), (h.1 c main_arg1 rfl).trans (final_arg1 m c)⟩, h.2⟩

end Cert.Rvq

end
-- ==== Proof.Transfer.lean ====
module
public import proofs.«01_k».proof.Proof.Gen.Kernel
public import proofs.«01_k».proof.Proof.Gen.KernelIdeal

/-!
# The kernel's text and its ideal reading are one program

The two printed programs are the same text over any floats; piece by piece (a body's parts, a body, a window, a region, the
host line) they are equal by unfolding, so what is proved of the one at any floats holds of the other.
-/

@[expose] public section

set_option maxRecDepth 20000
set_option maxHeartbeats 1600000
open Idealize.ShloMosaic Idealize.SL.Sem Idealize.ShloMosaic.TcCoe
variable {F : FTy → Type} [FloatOps F]
namespace Cert.Same

/-! The bodies of the four regions. -/

theorem k0_part1_eq : @Kernel.k0_part1 F _ Kernel.Gen.facts = @KernelIdeal.k0_part1 F _ KernelIdeal.Gen.facts := rfl
theorem cc0__stage_body_eq : @Kernel.cc0__stage_body F _ Kernel.Gen.facts = @KernelIdeal.cc0__stage_body F _ KernelIdeal.Gen.facts := by
  unfold Kernel.cc0__stage_body KernelIdeal.cc0__stage_body
  rw [k0_part1_eq]
  rfl
theorem k1_part1_eq : @Kernel.k1_part1 F _ Kernel.Gen.facts = @KernelIdeal.k1_part1 F _ KernelIdeal.Gen.facts := rfl
theorem cc1__stage_body_eq : @Kernel.cc1__stage_body F _ Kernel.Gen.facts = @KernelIdeal.cc1__stage_body F _ KernelIdeal.Gen.facts := by
  unfold Kernel.cc1__stage_body KernelIdeal.cc1__stage_body
  rw [k1_part1_eq]
  rfl
theorem k2_part1_eq : @Kernel.k2_part1 F _ Kernel.Gen.facts = @KernelIdeal.k2_part1 F _ KernelIdeal.Gen.facts := rfl
theorem cc2__stage_body_eq : @Kernel.cc2__stage_body F _ Kernel.Gen.facts = @KernelIdeal.cc2__stage_body F _ KernelIdeal.Gen.facts := by
  unfold Kernel.cc2__stage_body KernelIdeal.cc2__stage_body
  rw [k2_part1_eq]
  rfl
theorem k3_part1_eq : @Kernel.k3_part1 F _ Kernel.Gen.facts = @KernelIdeal.k3_part1 F _ KernelIdeal.Gen.facts := rfl
theorem k3_part2_eq : @Kernel.k3_part2 F _ Kernel.Gen.facts = @KernelIdeal.k3_part2 F _ KernelIdeal.Gen.facts := rfl
theorem cc3__stage_body_eq : @Kernel.cc3__stage_body F _ Kernel.Gen.facts = @KernelIdeal.cc3__stage_body F _ KernelIdeal.Gen.facts := by
  unfold Kernel.cc3__stage_body KernelIdeal.cc3__stage_body
  rw [k3_part1_eq, k3_part2_eq]
  rfl
theorem win0_eq : Kernel.win0 = KernelIdeal.win0 := rfl
theorem cfg0_eq : Kernel.cfg0 = KernelIdeal.cfg0 := rfl
theorem win1_eq : Kernel.win1 = KernelIdeal.win1 := rfl
theorem cfg1_eq : Kernel.cfg1 = KernelIdeal.cfg1 := rfl
theorem win2_eq : Kernel.win2 = KernelIdeal.win2 := rfl
theorem cfg2_eq : Kernel.cfg2 = KernelIdeal.cfg2 := rfl
theorem win3_eq : Kernel.win3 = KernelIdeal.win3 := rfl
theorem cfg3_eq : Kernel.cfg3 = KernelIdeal.cfg3 := rfl
theorem cfgs_eq : Kernel.cfgs = KernelIdeal.cfgs := rfl
theorem pcfgs_eq : @Kernel.pcfgs F _ = @KernelIdeal.pcfgs F _ := rfl
theorem main_eq : @Kernel.main F _ _ = @KernelIdeal.main F _ _ := rfl
end Cert.Same
-- ==== Proof.Transfer2.lean ====
module
public import proofs.«01_k».proof.Proof.Transfer

/-!
# The two programs have the same functions

The table of functions that a run consults is the same for the kernel's text and for its ideal reading.
-/

@[expose] public section

set_option maxRecDepth 20000
set_option maxHeartbeats 1600000
open Idealize.ShloMosaic Idealize.SL.Sem Idealize.ShloMosaic.TcCoe
variable {F : FTy → Type} [FloatOps F]
namespace Cert.Same
/-- The bodies that the regions call are the same. -/
theorem defs₀_eq : @Kernel.defs₀ F _ Kernel.Gen.facts = @KernelIdeal.defs₀ F _ KernelIdeal.Gen.facts := by
  unfold Kernel.defs₀ KernelIdeal.defs₀
  refine congrArg (Defs.onTc (nD := KernelIdeal.nD) (τ := KernelIdeal.τ) (sig := KernelIdeal.sig) (Λ := KernelIdeal.Λ₀)) (funext fun b => funext fun x => ?_)
  match b, x with
  | 0, (t, s) => dsimp only; rw [cc0__stage_body_eq]; rfl
  | 1, (t, s) => dsimp only; rw [cc1__stage_body_eq]; rfl
  | 2, (t, s) => dsimp only; rw [cc2__stage_body_eq]; rfl
  | 3, (t, s) => dsimp only; rw [cc3__stage_body_eq]; rfl
/-- The whole tables of functions are the same. -/
theorem defs_eq : @Kernel.defs F _ Kernel.Gen.facts = @KernelIdeal.defs F _ KernelIdeal.Gen.facts :=
  (congrArg (Pipeline.defs (nD := KernelIdeal.nD) (τ := KernelIdeal.τ) (Kernel.pcfgs (F := F))) defs₀_eq).trans rfl
end Cert.Same
-- ==== Proof.RefOps.lean ====
module

public import proofs.«01_k».proof.Proof.Gen.ReferenceIdeal
public import Idealize.ShloMosaic.Lib.StableHlo.Run
public import Idealize.ShloMosaic.Lib.Pipeline.Frame

/-!
# The reference program as a list of operations

Every stage of the reference is the same line of operations over its own buffers: the table of the stage is cut out of the
code book, the distances of every row of the residual to every code are formed, the smallest is looked for, its code is
taken, and the code is subtracted from the residual. The three pieces of that line are written once, over a record of the
buffers, and the program is the four instances followed by its last operations.
-/

@[expose] public section

set_option Elab.async false

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- The buffers of one stage's distances. -/
structure DistBufs where
  sq : TRef sig ⟨S16384x64, .f32⟩
  zero : TRef sig ⟨S_, .f32⟩
  ss : TRef sig ⟨S16384, .f32⟩
  ssCol : TRef sig ⟨S16384x1, .f32⟩
  turned : TRef sig ⟨S64x1024, .f32⟩
  dot : TRef sig ⟨S16384x1024, .f32⟩
  two : TRef sig ⟨S_, .f32⟩
  twos : TRef sig ⟨S16384x1024, .f32⟩
  dot2 : TRef sig ⟨S16384x1024, .f32⟩
  ssAll : TRef sig ⟨S16384x1024, .f32⟩
  diff : TRef sig ⟨S16384x1024, .f32⟩
  bookSq : TRef sig ⟨S1024x64, .f32⟩
  zero' : TRef sig ⟨S_, .f32⟩
  norm : TRef sig ⟨S1024, .f32⟩
  normRow : TRef sig ⟨S1x1024, .f32⟩
  normAll : TRef sig ⟨S16384x1024, .f32⟩
  dist : TRef sig ⟨S16384x1024, .f32⟩

/-- The first operations of a stage's distances, up to the squared norms of the codes. -/
abbrev distOps (res : TRef sig ⟨S16384x64, .f32⟩) (tbl : TRef sig ⟨S1024x64, .f32⟩) (φ : DistBufs) :
    List (HloOp τ sig (Elt F)) :=
  [ TRef.binary res res φ.sq mulf,
    TRef.nullary φ.zero (constant S_ .f32 0x00000000#32),
    TRef.binary φ.sq φ.zero φ.ss (fun x v => Host.reduceAdd x v reducesTo_S16384x64_S16384_d1 h_S_),
    TRef.unary φ.ss φ.ssCol (broadcastInDim S16384x1 ![0] bcast_S16384_S16384x1_0),
    TRef.unary tbl φ.turned (fun x => transpose S64x1024 [1, 0] x transposes_S1024x64_S64x1024_1_0),
    TRef.binary res φ.turned φ.dot (fun l r => Host.dotGeneral dot_S16384x64_S64x1024_S16384x1024_1_0_0_1_n_n none l r),
    TRef.nullary φ.two (constant S_ .f32 0x40000000#32),
    TRef.unary φ.two φ.twos (broadcastInDim S16384x1024 ![] bcast_S_S16384x1024),
    TRef.binary φ.twos φ.dot φ.dot2 mulf,
    TRef.unary φ.ssCol φ.ssAll (broadcastInDim S16384x1024 ![0, 1] bcast_S16384x1_S16384x1024_0_1),
    TRef.binary φ.ssAll φ.dot2 φ.diff subf,
    TRef.binary tbl tbl φ.bookSq mulf,
    TRef.nullary φ.zero' (constant S_ .f32 0x00000000#32),
    TRef.binary φ.bookSq φ.zero' φ.norm (fun x v => Host.reduceAdd x v reducesTo_S1024x64_S1024_d1 h_S_) ]

/-- The last operations of a stage's distances: the norms are added to every row. -/
abbrev normOps (φ : DistBufs) : List (HloOp τ sig (Elt F)) :=
  [ TRef.unary φ.norm φ.normRow (broadcastInDim S1x1024 ![1] bcast_S1024_S1x1024_1),
    TRef.unary φ.normRow φ.normAll (broadcastInDim S16384x1024 ![0, 1] bcast_S1x1024_S16384x1024_0_1),
    TRef.binary φ.diff φ.normAll φ.dist addf ]

/-- The search for the smallest distance of every row. -/
abbrev searchOps (dist : TRef sig ⟨S16384x1024, .f32⟩) (φ : fn_argmin.Bufs) : List (HloOp τ sig (Elt F)) :=
  [ TRef.nullary φ.v0 (iotaInDim S16384x1024 32 1),
    TRef.nullary φ.cst (constant S_ .f32 0x7F800000#32),
    TRef.nullary φ.c (constantI S_ 32 0#32),
    TRef.quaternary dist φ.v0 φ.cst φ.c φ.v1_0
      (fun x y u v j => (Host.argReduce reducer_argmin_f32_i32 x y u v reducesTo_S16384x1024_S16384_d1 h_S_ j).1),
    TRef.quaternary dist φ.v0 φ.cst φ.c φ.v1_1
      (fun x y u v j => (Host.argReduce reducer_argmin_f32_i32 x y u v reducesTo_S16384x1024_S16384_d1 h_S_ j).2) ]

/-- The codes of the table at the found places, and what is left of the residual. -/
abbrev takeOps (tbl : TRef sig ⟨S1024x64, .f32⟩) (idx : TRef sig ⟨S16384, .i32⟩) (φ : fn_take.Bufs)
    (res res' : TRef sig ⟨S16384x64, .f32⟩) : List (HloOp τ sig (Elt F)) :=
  [ TRef.nullary φ.c (constantI S_ 32 0#32),
    TRef.unary φ.c φ.v0 (broadcastInDim S16384 ![] bcast_S_S16384),
    TRef.binary idx φ.v0 φ.v1 (cmpi .slt),
    TRef.nullary φ.c_0 (constantI S_ 32 1024#32),
    TRef.unary φ.c_0 φ.v2 (broadcastInDim S16384 ![] bcast_S_S16384),
    TRef.binary idx φ.v2 φ.v3 addi,
    TRef.ternary φ.v1 φ.v3 idx φ.call0.v0 select,
    TRef.unary φ.call0.v0 φ.v5 (broadcastInDim S16384x1 ![0] bcast_S16384_S16384x1_0),
    TRef.nullary φ.c_1 (constantI S1 32 1023#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tbl φ.v5 φ.v13 (fun x i => Host.gather gather_S1024x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select,
    TRef.binary res φ.v16 res' subf ]

/-- The operations of a stage after its distances. -/
abbrev chooseOps (dist : TRef sig ⟨S16384x1024, .f32⟩) (tbl : TRef sig ⟨S1024x64, .f32⟩) (idx : TRef sig ⟨S16384, .i32⟩)
    (α : fn_argmin.Bufs) (φ : fn_take.Bufs) (res res' : TRef sig ⟨S16384x64, .f32⟩) : List (HloOp τ sig (Elt F)) :=
  searchOps dist α ++ takeOps tbl idx φ res res'

/-- The buffers of the distances, stage by stage. -/
abbrev bufs0 : DistBufs := ⟨.of main_v2, .of main_cst, .of main_v3, .of main_v4, .of main_v5, .of main_v6, .of main_cst_0,
  .of main_v7, .of main_v8, .of main_v9, .of main_v10, .of main_v11, .of main_cst_1, .of main_v12, .of main_v13, .of main_v14,
  .of main_v15⟩
@[inherit_doc bufs0]
abbrev bufs1 : DistBufs := ⟨.of main_v21, .of main_cst_2, .of main_v22, .of main_v23, .of main_v24, .of main_v25,
  .of main_cst_3, .of main_v26, .of main_v27, .of main_v28, .of main_v29, .of main_v30, .of main_cst_4, .of main_v31,
  .of main_v32, .of main_v33, .of main_v34⟩
@[inherit_doc bufs0]
abbrev bufs2 : DistBufs := ⟨.of main_v40, .of main_cst_5, .of main_v41, .of main_v42, .of main_v43, .of main_v44,
  .of main_cst_6, .of main_v45, .of main_v46, .of main_v47, .of main_v48, .of main_v49, .of main_cst_7, .of main_v50,
  .of main_v51, .of main_v52, .of main_v53⟩
@[inherit_doc bufs0]
abbrev bufs3 : DistBufs := ⟨.of main_v59, .of main_cst_8, .of main_v60, .of main_v61, .of main_v62, .of main_v63,
  .of main_cst_9, .of main_v64, .of main_v65, .of main_v66, .of main_v67, .of main_v68, .of main_cst_10, .of main_v69,
  .of main_v70, .of main_v71, .of main_v72⟩

/-- A stage's table, cut out of the code book. -/
abbrev tableOps (off : Fin 3 → Nat) (h : S4x1024x64.Slices off S1x1024x64) (cut : TRef sig ⟨S1x1024x64, .f32⟩)
    (tbl : TRef sig ⟨S1024x64, .f32⟩) : List (HloOp τ sig (Elt F)) :=
  [ TRef.unary (.of main_arg1 : TRef sig ⟨S4x1024x64, .f32⟩) cut (fun x => extractStridedSlice S1x1024x64 off x h),
    TRef.unary cut tbl (fun x => shapeCast S1024x64 x shapeCasts_S1x1024x64_S1024x64) ]

/-- Four rows of chosen codes, put one over the other. -/
def stack (a b c d : (⟨S1x16384x64, .f32⟩ : BufTy).Contents (Elt F)) : (⟨S4x16384x64, .f32⟩ : BufTy).Contents (Elt F) :=
  concatenate S4x16384x64 0 [⟨S1x16384x64, a⟩, ⟨S1x16384x64, b⟩, ⟨S1x16384x64, c⟩, ⟨S1x16384x64, d⟩]
    concatenates_S1x16384x64_S1x16384x64_S1x16384x64_S1x16384x64_S4x16384x64_d0

/-- Four columns of indices, put side by side. -/
def columns (a b c d : (⟨S16384x1, .i32⟩ : BufTy).Contents (Elt F)) : (⟨S16384x4, .i32⟩ : BufTy).Contents (Elt F) :=
  concatenate S16384x4 1 [⟨S16384x1, a⟩, ⟨S16384x1, b⟩, ⟨S16384x1, c⟩, ⟨S16384x1, d⟩]
    concatenates_S16384x1_S16384x1_S16384x1_S16384x1_S16384x4_d1

/-- The operations after the four stages: the sum of the codes, the loss, the output and the indices. -/
abbrev lastOps : List (HloOp τ sig (Elt F)) :=
  [ TRef.unary (.of main_v17 : TRef sig ⟨S16384x64, .f32⟩) (.of main_v76 : TRef sig ⟨S1x16384x64, .f32⟩)
      (broadcastInDim S1x16384x64 ![1, 2] bcast_S16384x64_S1x16384x64_1_2),
    TRef.unary (.of main_v36 : TRef sig ⟨S16384x64, .f32⟩) (.of main_v77 : TRef sig ⟨S1x16384x64, .f32⟩)
      (broadcastInDim S1x16384x64 ![1, 2] bcast_S16384x64_S1x16384x64_1_2),
    TRef.unary (.of main_v55 : TRef sig ⟨S16384x64, .f32⟩) (.of main_v78 : TRef sig ⟨S1x16384x64, .f32⟩)
      (broadcastInDim S1x16384x64 ![1, 2] bcast_S16384x64_S1x16384x64_1_2),
    TRef.unary (.of main_v74 : TRef sig ⟨S16384x64, .f32⟩) (.of main_v79 : TRef sig ⟨S1x16384x64, .f32⟩)
      (broadcastInDim S1x16384x64 ![1, 2] bcast_S16384x64_S1x16384x64_1_2),
    nary ![main_v76, main_v77, main_v78, main_v79] main_v80 (fun u => stack (F := F) (u 0) (u 1) (u 2) (u 3)),
    nullary main_cst_11 (constant S_ .f32 0x00000000#32),
    binary main_v80 main_cst_11 main_v81 ((fun x v => Host.reduceAdd x v reducesTo_S4x16384x64_S16384x64_d0 h_S_) :
      (⟨S4x16384x64, .f32⟩ : BufTy).Contents (Elt F) → (⟨S_, .f32⟩ : BufTy).Contents (Elt F) →
        (⟨S16384x64, .f32⟩ : BufTy).Contents (Elt F)),
    TRef.binary (.of main_arg0 : TRef sig ⟨S16384x64, .f32⟩) (.of main_v81 : TRef sig ⟨S16384x64, .f32⟩)
      (.of main_v82 : TRef sig ⟨S16384x64, .f32⟩) subf,
    TRef.binary (.of main_v82 : TRef sig ⟨S16384x64, .f32⟩) (.of main_v82 : TRef sig ⟨S16384x64, .f32⟩)
      (.of main_v83 : TRef sig ⟨S16384x64, .f32⟩) mulf,
    nullary main_cst_12 (constant S_ .f32 0x00000000#32),
    binary main_v83 main_cst_12 main_v84 ((fun x v => Host.reduceAdd x v reducesTo_S16384x64_S_d0_1 h_S_) :
      (⟨S16384x64, .f32⟩ : BufTy).Contents (Elt F) → (⟨S_, .f32⟩ : BufTy).Contents (Elt F) →
        (⟨S_, .f32⟩ : BufTy).Contents (Elt F)),
    nullary main_cst_13 (constant S_ .f32 0x49800000#32),
    TRef.binary (.of main_v84 : TRef sig ⟨S_, .f32⟩) (.of main_cst_13 : TRef sig ⟨S_, .f32⟩)
      (.of main_v85 : TRef sig ⟨S_, .f32⟩) Host.divf,
    TRef.binary (.of main_arg0 : TRef sig ⟨S16384x64, .f32⟩) (.of main_v81 : TRef sig ⟨S16384x64, .f32⟩)
      (.of main_v86 : TRef sig ⟨S16384x64, .f32⟩) subf,
    TRef.binary (.of main_v81 : TRef sig ⟨S16384x64, .f32⟩) (.of main_v86 : TRef sig ⟨S16384x64, .f32⟩)
      (.of main_v87 : TRef sig ⟨S16384x64, .f32⟩) addf,
    TRef.unary (.of main_v16 : TRef sig ⟨S16384, .i32⟩) (.of main_v88 : TRef sig ⟨S16384x1, .i32⟩)
      (broadcastInDim S16384x1 ![0] bcast_S16384_S16384x1_0),
    TRef.unary (.of main_v35 : TRef sig ⟨S16384, .i32⟩) (.of main_v89 : TRef sig ⟨S16384x1, .i32⟩)
      (broadcastInDim S16384x1 ![0] bcast_S16384_S16384x1_0),
    TRef.unary (.of main_v54 : TRef sig ⟨S16384, .i32⟩) (.of main_v90 : TRef sig ⟨S16384x1, .i32⟩)
      (broadcastInDim S16384x1 ![0] bcast_S16384_S16384x1_0),
    TRef.unary (.of main_v73 : TRef sig ⟨S16384, .i32⟩) (.of main_v91 : TRef sig ⟨S16384x1, .i32⟩)
      (broadcastInDim S16384x1 ![0] bcast_S16384_S16384x1_0),
    nary ![main_v88, main_v89, main_v90, main_v91] main_v92 (fun u => columns (F := F) (u 0) (u 1) (u 2) (u 3)) ]

/-- The first stage's distances. -/
abbrev opsD0 : List (HloOp τ sig (Elt F)) :=
  tableOps ![0, 0, 0] slices_S4x1024x64_S1x1024x64_0_0_0 (.of main_v0) (.of main_v1)
    ++ distOps (.of main_arg0) (.of main_v1) bufs0 ++ normOps bufs0
/-- The first stage's choice. -/
abbrev opsC0 : List (HloOp τ sig (Elt F)) :=
  chooseOps (.of main_v15) (.of main_v1) (.of main_v16) main_call0 main_call1 (.of main_arg0) (.of main_v18)
/-- The second stage's distances. -/
abbrev opsD1 : List (HloOp τ sig (Elt F)) :=
  tableOps ![1, 0, 0] slices_S4x1024x64_S1x1024x64_1_0_0 (.of main_v19) (.of main_v20)
    ++ distOps (.of main_v18) (.of main_v20) bufs1 ++ normOps bufs1
/-- The second stage's choice. -/
abbrev opsC1 : List (HloOp τ sig (Elt F)) :=
  chooseOps (.of main_v34) (.of main_v20) (.of main_v35) main_call2 main_call3 (.of main_v18) (.of main_v37)
/-- The third stage's distances, up to the norms of the codes. -/
abbrev opsD2 : List (HloOp τ sig (Elt F)) :=
  tableOps ![2, 0, 0] slices_S4x1024x64_S1x1024x64_2_0_0 (.of main_v38) (.of main_v39)
    ++ distOps (.of main_v37) (.of main_v39) bufs2
/-- The third stage's choice, with the rest of its distances before it. -/
abbrev opsC2 : List (HloOp τ sig (Elt F)) :=
  normOps bufs2 ++
  chooseOps (.of main_v53) (.of main_v39) (.of main_v54) main_call4 main_call5 (.of main_v37) (.of main_v56)
/-- The fourth stage's distances. -/
abbrev opsD3 : List (HloOp τ sig (Elt F)) :=
  tableOps ![3, 0, 0] slices_S4x1024x64_S1x1024x64_3_0_0 (.of main_v57) (.of main_v58)
    ++ distOps (.of main_v56) (.of main_v58) bufs3 ++ normOps bufs3
/-- The fourth stage's choice. -/
abbrev opsC3 : List (HloOp τ sig (Elt F)) :=
  chooseOps (.of main_v72) (.of main_v58) (.of main_v73) main_call6 main_call7 (.of main_v56) (.of main_v75)

/-- The whole program. -/
def ops : List (HloOp τ sig (Elt F)) :=
  (opsD0 ++ opsC0 ++ opsD1 ++ opsC1 ++ opsD2) ++ (opsC2 ++ opsD3 ++ opsC3 ++ lastOps)

set_option maxRecDepth 20000 in
set_option maxHeartbeats 4000000 in
theorem main_part0_eq (c : Dev nD) :
    main_part0 (F := F) c = seq (opsD0 ++ opsC0 ++ opsD1 ++ opsC1 ++ opsD2) := rfl

set_option maxRecDepth 20000 in
set_option maxHeartbeats 4000000 in
theorem main_part1_eq (c : Dev nD) :
    main_part1 (F := F) c = seq (opsC2 ++ opsD3 ++ opsC3 ++ lastOps) := rfl

/-- The reference program runs these operations one after the other. -/
theorem main_eq (c : Dev nD) : main (F := F) c = seq ops := by
  simp only [ops, seq_append (Λ := _) (opsD0 ++ opsC0 ++ opsD1 ++ opsC1 ++ opsD2), ← main_part0_eq c, ← main_part1_eq c]
  rfl

end Cert.RefRun

end
-- ==== Proof.RefRun.lean ====
module

public import proofs.«01_k».proof.Proof.RefOps

/-!
# What the reference program leaves in its buffers

The functions below are a stage of the reference on whole arrays; the theorems read the program's line of operations window by
window and end with its run: each result buffer holds the composed term of the arguments.
-/

@[expose] public section

set_option Elab.async false
set_option maxRecDepth 16384

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- A stage's table: one of the four slices of the code book. -/
def tableOf (off : Fin 3 → Nat) (h : S4x1024x64.Slices off S1x1024x64) (book : (⟨S4x1024x64, .f32⟩ : BufTy).Contents (Elt F)) :
    (⟨S1024x64, .f32⟩ : BufTy).Contents (Elt F) :=
  shapeCast S1024x64 (extractStridedSlice S1x1024x64 off book h) shapeCasts_S1x1024x64_S1024x64

/-- The squared length of every row of the residual, less twice its products with the codes. -/
def diffOf (res : (⟨S16384x64, .f32⟩ : BufTy).Contents (Elt F)) (tbl : (⟨S1024x64, .f32⟩ : BufTy).Contents (Elt F)) :
    (⟨S16384x1024, .f32⟩ : BufTy).Contents (Elt F) :=
  subf
    (broadcastInDim S16384x1024 ![0, 1] bcast_S16384x1_S16384x1024_0_1
      (broadcastInDim S16384x1 ![0] bcast_S16384_S16384x1_0
        (Host.reduceAdd (mulf res res) (constant S_ .f32 0x00000000#32) reducesTo_S16384x64_S16384_d1 h_S_)))
    (mulf (broadcastInDim S16384x1024 ![] bcast_S_S16384x1024 (constant S_ .f32 0x40000000#32))
      (Host.dotGeneral dot_S16384x64_S64x1024_S16384x1024_1_0_0_1_n_n none res
        (transpose S64x1024 [1, 0] tbl transposes_S1024x64_S64x1024_1_0)))

/-- The squared length of every code. -/
def normOf (tbl : (⟨S1024x64, .f32⟩ : BufTy).Contents (Elt F)) : (⟨S1024, .f32⟩ : BufTy).Contents (Elt F) :=
  Host.reduceAdd (mulf tbl tbl) (constant S_ .f32 0x00000000#32) reducesTo_S1024x64_S1024_d1 h_S_

/-- The norms added to every row. -/
def addNorms (diff : (⟨S16384x1024, .f32⟩ : BufTy).Contents (Elt F)) (norm : (⟨S1024, .f32⟩ : BufTy).Contents (Elt F)) :
    (⟨S16384x1024, .f32⟩ : BufTy).Contents (Elt F) :=
  addf diff (broadcastInDim S16384x1024 ![0, 1] bcast_S1x1024_S16384x1024_0_1
    (broadcastInDim S1x1024 ![1] bcast_S1024_S1x1024_1 norm))

/-- The distance of every row of the residual to every code. -/
def distOf (res : (⟨S16384x64, .f32⟩ : BufTy).Contents (Elt F)) (tbl : (⟨S1024x64, .f32⟩ : BufTy).Contents (Elt F)) :
    (⟨S16384x1024, .f32⟩ : BufTy).Contents (Elt F) :=
  addNorms (diffOf res tbl) (normOf tbl)

/-- The place of the smallest distance of every row. -/
def placeOf (dist : (⟨S16384x1024, .f32⟩ : BufTy).Contents (Elt F)) : (⟨S16384, .i32⟩ : BufTy).Contents (Elt F) :=
  fun j => (Host.argReduce reducer_argmin_f32_i32 dist (iotaInDim S16384x1024 32 1) (constant S_ .f32 0x7F800000#32)
    (constantI S_ 32 0#32) reducesTo_S16384x1024_S16384_d1 h_S_ j).2

/-- The places as a column, a negative one counted from the end. -/
def wrapOf (idx : (⟨S16384, .i32⟩ : BufTy).Contents (Elt F)) : (⟨S16384x1, .i32⟩ : BufTy).Contents (Elt F) :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 1024#32))) idx)

/-- Whether a place lies in the table. -/
def insideOf (at_ : (⟨S16384x1, .i32⟩ : BufTy).Contents (Elt F)) : (⟨S16384, .i1⟩ : BufTy).Contents (Elt F) :=
  Host.reduce IntOp.andi
    (andi (cmpi .sge at_ (broadcastInDim S16384x1 ![] bcast_S_S16384x1 (constantI S_ 32 0#32)))
      (cmpi .sle at_ (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codes of the table at the given places. -/
def codeOf (tbl : (⟨S1024x64, .f32⟩ : BufTy).Contents (Elt F)) (idx : (⟨S16384, .i32⟩ : BufTy).Contents (Elt F)) :
    (⟨S16384x64, .f32⟩ : BufTy).Contents (Elt F) :=
  select (broadcastInDim S16384x64 ![0] bcast_S16384_S16384x64_0 (insideOf (F := F) (wrapOf (F := F) idx)))
    (Host.gather gather_S1024x64_S16384x1_S16384x64_1_0_n_n_0_1_164 tbl (wrapOf (F := F) idx))
    (broadcastInDim S16384x64 ![] bcast_S_S16384x64 (constant S_ .f32 0x7FC00000#32))

variable (V : Valuation τ sig (Elt F))

/-- The references that the distances of a stage write. -/
abbrev DistBufs.refs (φ : DistBufs) : List (Ref sig .tc) :=
  [φ.sq.ref, φ.zero.ref, φ.ss.ref, φ.ssCol.ref, φ.turned.ref, φ.dot.ref, φ.two.ref, φ.twos.ref, φ.dot2.ref, φ.ssAll.ref,
   φ.diff.ref, φ.bookSq.ref, φ.zero'.ref, φ.norm.ref]

/-- The references that the last operations of a stage's distances write. -/
abbrev DistBufs.lastRefs (φ : DistBufs) : List (Ref sig .tc) := [φ.normRow.ref, φ.normAll.ref, φ.dist.ref]

/-- The references that a stage's search and choice write. -/
abbrev chooseRefs (α : fn_argmin.Bufs) (φ : fn_take.Bufs) (res' : Ref sig .tc) : List (Ref sig .tc) :=
  [α.v0.ref, α.cst.ref, α.c.ref, α.v1_0.ref, α.v1_1.ref, φ.c.ref, φ.v0.ref, φ.v1.ref, φ.c_0.ref, φ.v2.ref, φ.v3.ref,
   φ.call0.v0.ref, φ.v5.ref, φ.c_1.ref, φ.c_2.ref, φ.v6.ref, φ.v7.ref, φ.v8.ref, φ.v9.ref, φ.v10.ref, φ.v11.ref, φ.c_3.ref,
   φ.v12.ref, φ.v13.ref, φ.v14.ref, φ.cst.ref, φ.v15.ref, φ.v16.ref, res']

/-! A buffer outside those lists keeps its contents. -/

theorem opsD0_keeps {r : Ref sig .tc} (h : r ∉ [main_v0, main_v1] ++ bufs0.refs ++ bufs0.lastRefs) :
    after opsD0 V (Proc.devRef .tc r) = V (Proc.devRef .tc r) :=
  after_of_writes_sub opsD0 V (forall_writes_sub_of_map rfl) h
theorem opsC0_keeps {r : Ref sig .tc} (h : r ∉ chooseRefs main_call0 main_call1 main_v18) :
    after opsC0 V (Proc.devRef .tc r) = V (Proc.devRef .tc r) :=
  after_of_writes_sub opsC0 V (forall_writes_sub_of_map rfl) h
theorem opsD1_keeps {r : Ref sig .tc} (h : r ∉ [main_v19, main_v20] ++ bufs1.refs ++ bufs1.lastRefs) :
    after opsD1 V (Proc.devRef .tc r) = V (Proc.devRef .tc r) :=
  after_of_writes_sub opsD1 V (forall_writes_sub_of_map rfl) h
theorem opsC1_keeps {r : Ref sig .tc} (h : r ∉ chooseRefs main_call2 main_call3 main_v37) :
    after opsC1 V (Proc.devRef .tc r) = V (Proc.devRef .tc r) :=
  after_of_writes_sub opsC1 V (forall_writes_sub_of_map rfl) h
theorem opsD2_keeps {r : Ref sig .tc} (h : r ∉ [main_v38, main_v39] ++ bufs2.refs) :
    after opsD2 V (Proc.devRef .tc r) = V (Proc.devRef .tc r) :=
  after_of_writes_sub opsD2 V (forall_writes_sub_of_map rfl) h
theorem opsC2_keeps {r : Ref sig .tc} (h : r ∉ bufs2.lastRefs ++ chooseRefs main_call4 main_call5 main_v56) :
    after opsC2 V (Proc.devRef .tc r) = V (Proc.devRef .tc r) :=
  after_of_writes_sub opsC2 V (forall_writes_sub_of_map rfl) h
theorem opsD3_keeps {r : Ref sig .tc} (h : r ∉ [main_v57, main_v58] ++ bufs3.refs ++ bufs3.lastRefs) :
    after opsD3 V (Proc.devRef .tc r) = V (Proc.devRef .tc r) :=
  after_of_writes_sub opsD3 V (forall_writes_sub_of_map rfl) h
theorem opsC3_keeps {r : Ref sig .tc} (h : r ∉ chooseRefs main_call6 main_call7 main_v75) :
    after opsC3 V (Proc.devRef .tc r) = V (Proc.devRef .tc r) :=
  after_of_writes_sub opsC3 V (forall_writes_sub_of_map rfl) h

/-! What each window leaves: the table and the distances; the places, the codes and the next residual. -/

theorem opsD0_table : after opsD0 V (Proc.devRef .tc main_v1)
    = tableOf ![0, 0, 0] slices_S4x1024x64_S1x1024x64_0_0_0 (V (Proc.devRef .tc main_arg1)) := by
  simp only [opsD0, tableOps, distOps, normOps, List.cons_append, List.nil_append, TRef.binary, TRef.nullary, TRef.unary,
    TRef.toBuf, TRef.ofBuf, cast_eq]
  after_results_simp
  rfl
theorem opsD0_dist : after opsD0 V (Proc.devRef .tc main_v15)
    = distOf (V (Proc.devRef .tc main_arg0))
      (tableOf ![0, 0, 0] slices_S4x1024x64_S1x1024x64_0_0_0 (V (Proc.devRef .tc main_arg1))) := by
  simp only [opsD0, tableOps, distOps, normOps, List.cons_append, List.nil_append, TRef.binary, TRef.nullary, TRef.unary,
    TRef.toBuf, TRef.ofBuf, cast_eq]
  after_results_simp
  rfl
theorem opsC0_place : after opsC0 V (Proc.devRef .tc main_v16)
    = placeOf (V (Proc.devRef .tc main_v15)) := by
  simp only [opsC0, normOps, chooseOps, searchOps, takeOps, List.cons_append, List.nil_append, TRef.binary, TRef.nullary,
    TRef.unary, TRef.ternary, TRef.quaternary, TRef.toBuf, TRef.ofBuf, cast_eq]
  after_results_simp
  rfl
theorem opsC0_code : after opsC0 V (Proc.devRef .tc main_v17)
    = codeOf (V (Proc.devRef .tc main_v1)) (placeOf (V (Proc.devRef .tc main_v15))) := by
  simp only [opsC0, normOps, chooseOps, searchOps, takeOps, List.cons_append, List.nil_append, TRef.binary, TRef.nullary,
    TRef.unary, TRef.ternary, TRef.quaternary, TRef.toBuf, TRef.ofBuf, cast_eq]
  after_results_simp
  rfl
theorem opsC0_next : after opsC0 V (Proc.devRef .tc main_v18)
    = subf (V (Proc.devRef .tc main_arg0))
      (codeOf (V (Proc.devRef .tc main_v1)) (placeOf (V (Proc.devRef .tc main_v15)))) := by
  simp only [opsC0, normOps, chooseOps, searchOps, takeOps, List.cons_append, List.nil_append, TRef.binary, TRef.nullary,
    TRef.unary, TRef.ternary, TRef.quaternary, TRef.toBuf, TRef.ofBuf, cast_eq]
  after_results_simp
  rfl
theorem opsD1_table : after opsD1 V (Proc.devRef .tc main_v20)
    = tableOf ![1, 0, 0] slices_S4x1024x64_S1x1024x64_1_0_0 (V (Proc.devRef .tc main_arg1)) := by
  simp only [opsD1, tableOps, distOps, normOps, List.cons_append, List.nil_append, TRef.binary, TRef.nullary, TRef.unary,
    TRef.toBuf, TRef.ofBuf, cast_eq]
  after_results_simp
  rfl
theorem opsD1_dist : after opsD1 V (Proc.devRef .tc main_v34)
    = distOf (V (Proc.devRef .tc main_v18))
      (tableOf ![1, 0, 0] slices_S4x1024x64_S1x1024x64_1_0_0 (V (Proc.devRef .tc main_arg1))) := by
  simp only [opsD1, tableOps, distOps, normOps, List.cons_append, List.nil_append, TRef.binary, TRef.nullary, TRef.unary,
    TRef.toBuf, TRef.ofBuf, cast_eq]
  after_results_simp
  rfl
theorem opsC1_place : after opsC1 V (Proc.devRef .tc main_v35)
    = placeOf (V (Proc.devRef .tc main_v34)) := by
  simp only [opsC1, normOps, chooseOps, searchOps, takeOps, List.cons_append, List.nil_append, TRef.binary, TRef.nullary,
    TRef.unary, TRef.ternary, TRef.quaternary, TRef.toBuf, TRef.ofBuf, cast_eq]
  after_results_simp
  rfl
theorem opsC1_code : after opsC1 V (Proc.devRef .tc main_v36)
    = codeOf (V (Proc.devRef .tc main_v20)) (placeOf (V (Proc.devRef .tc main_v34))) := by
  simp only [opsC1, normOps, chooseOps, searchOps, takeOps, List.cons_append, List.nil_append, TRef.binary, TRef.nullary,
    TRef.unary, TRef.ternary, TRef.quaternary, TRef.toBuf, TRef.ofBuf, cast_eq]
  after_results_simp
  rfl
theorem opsC1_next : after opsC1 V (Proc.devRef .tc main_v37)
    = subf (V (Proc.devRef .tc main_v18))
      (codeOf (V (Proc.devRef .tc main_v20)) (placeOf (V (Proc.devRef .tc main_v34)))) := by
  simp only [opsC1, normOps, chooseOps, searchOps, takeOps, List.cons_append, List.nil_append, TRef.binary, TRef.nullary,
    TRef.unary, TRef.ternary, TRef.quaternary, TRef.toBuf, TRef.ofBuf, cast_eq]
  after_results_simp
  rfl
theorem opsD2_table : after opsD2 V (Proc.devRef .tc main_v39)
    = tableOf ![2, 0, 0] slices_S4x1024x64_S1x1024x64_2_0_0 (V (Proc.devRef .tc main_arg1)) := by
  simp only [opsD2, tableOps, distOps, normOps, List.cons_append, List.nil_append, TRef.binary, TRef.nullary, TRef.unary,
    TRef.toBuf, TRef.ofBuf, cast_eq]
  after_results_simp
  rfl
theorem opsD2_diff : after opsD2 V (Proc.devRef .tc main_v48)
    = diffOf (V (Proc.devRef .tc main_v37))
      (tableOf ![2, 0, 0] slices_S4x1024x64_S1x1024x64_2_0_0 (V (Proc.devRef .tc main_arg1))) := by
  simp only [opsD2, tableOps, distOps, normOps, List.cons_append, List.nil_append, TRef.binary, TRef.nullary, TRef.unary,
    TRef.toBuf, TRef.ofBuf, cast_eq]
  after_results_simp
  rfl
theorem opsD2_norm : after opsD2 V (Proc.devRef .tc main_v50)
    = normOf
      (tableOf ![2, 0, 0] slices_S4x1024x64_S1x1024x64_2_0_0 (V (Proc.devRef .tc main_arg1))) := by
  simp only [opsD2, tableOps, distOps, normOps, List.cons_append, List.nil_append, TRef.binary, TRef.nullary, TRef.unary,
    TRef.toBuf, TRef.ofBuf, cast_eq]
  after_results_simp
  rfl
theorem opsC2_place : after opsC2 V (Proc.devRef .tc main_v54)
    = placeOf (addNorms (V (Proc.devRef .tc main_v48)) (V (Proc.devRef .tc main_v50))) := by
  simp only [opsC2, normOps, chooseOps, searchOps, takeOps, List.cons_append, List.nil_append, TRef.binary, TRef.nullary,
    TRef.unary, TRef.ternary, TRef.quaternary, TRef.toBuf, TRef.ofBuf, cast_eq]
  after_results_simp
  rfl
theorem opsC2_code : after opsC2 V (Proc.devRef .tc main_v55)
    = codeOf (V (Proc.devRef .tc main_v39)) (placeOf (addNorms (V (Proc.devRef .tc main_v48)) (V (Proc.devRef .tc main_v50)))) := by
  simp only [opsC2, normOps, chooseOps, searchOps, takeOps, List.cons_append, List.nil_append, TRef.binary, TRef.nullary,
    TRef.unary, TRef.ternary, TRef.quaternary, TRef.toBuf, TRef.ofBuf, cast_eq]
  after_results_simp
  rfl
theorem opsC2_next : after opsC2 V (Proc.devRef .tc main_v56)
    = subf (V (Proc.devRef .tc main_v37))
      (codeOf (V (Proc.devRef .tc main_v39)) (placeOf (addNorms (V (Proc.devRef .tc main_v48)) (V (Proc.devRef .tc main_v50))))) := by
  simp only [opsC2, normOps, chooseOps, searchOps, takeOps, List.cons_append, List.nil_append, TRef.binary, TRef.nullary,
    TRef.unary, TRef.ternary, TRef.quaternary, TRef.toBuf, TRef.ofBuf, cast_eq]
  after_results_simp
  rfl
theorem opsD3_table : after opsD3 V (Proc.devRef .tc main_v58)
    = tableOf ![3, 0, 0] slices_S4x1024x64_S1x1024x64_3_0_0 (V (Proc.devRef .tc main_arg1)) := by
  simp only [opsD3, tableOps, distOps, normOps, List.cons_append, List.nil_append, TRef.binary, TRef.nullary, TRef.unary,
    TRef.toBuf, TRef.ofBuf, cast_eq]
  after_results_simp
  rfl
theorem opsD3_dist : after opsD3 V (Proc.devRef .tc main_v72)
    = distOf (V (Proc.devRef .tc main_v56))
      (tableOf ![3, 0, 0] slices_S4x1024x64_S1x1024x64_3_0_0 (V (Proc.devRef .tc main_arg1))) := by
  simp only [opsD3, tableOps, distOps, normOps, List.cons_append, List.nil_append, TRef.binary, TRef.nullary, TRef.unary,
    TRef.toBuf, TRef.ofBuf, cast_eq]
  after_results_simp
  rfl
theorem opsC3_place : after opsC3 V (Proc.devRef .tc main_v73)
    = placeOf (V (Proc.devRef .tc main_v72)) := by
  simp only [opsC3, normOps, chooseOps, searchOps, takeOps, List.cons_append, List.nil_append, TRef.binary, TRef.nullary,
    TRef.unary, TRef.ternary, TRef.quaternary, TRef.toBuf, TRef.ofBuf, cast_eq]
  after_results_simp
  rfl
theorem opsC3_code : after opsC3 V (Proc.devRef .tc main_v74)
    = codeOf (V (Proc.devRef .tc main_v58)) (placeOf (V (Proc.devRef .tc main_v72))) := by
  simp only [opsC3, normOps, chooseOps, searchOps, takeOps, List.cons_append, List.nil_append, TRef.binary, TRef.nullary,
    TRef.unary, TRef.ternary, TRef.quaternary, TRef.toBuf, TRef.ofBuf, cast_eq]
  after_results_simp
  rfl
theorem opsC3_next : after opsC3 V (Proc.devRef .tc main_v75)
    = subf (V (Proc.devRef .tc main_v56))
      (codeOf (V (Proc.devRef .tc main_v58)) (placeOf (V (Proc.devRef .tc main_v72)))) := by
  simp only [opsC3, normOps, chooseOps, searchOps, takeOps, List.cons_append, List.nil_append, TRef.binary, TRef.nullary,
    TRef.unary, TRef.ternary, TRef.quaternary, TRef.toBuf, TRef.ofBuf, cast_eq]
  after_results_simp
  rfl

end Cert.RefRun

end
-- ==== Proof.RefResult.lean ====
module

public import proofs.«01_k».proof.Proof.RefRun

/-!
# The run of the reference

The four stages one after the other, then the results: the sum of the chosen codes, the loss and the places.
-/

@[expose] public section

set_option Elab.async false
set_option maxRecDepth 16384

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- Contents of a matrix of rows. -/
abbrev Rows (F : FTy → Type) : Type := (⟨S16384x64, .f32⟩ : BufTy).Contents (Elt F)
/-- Contents of the code book. -/
abbrev Book (F : FTy → Type) : Type := (⟨S4x1024x64, .f32⟩ : BufTy).Contents (Elt F)
/-- Contents of one stage's table. -/
abbrev Table (F : FTy → Type) : Type := (⟨S1024x64, .f32⟩ : BufTy).Contents (Elt F)
/-- One place for every row. -/
abbrev Places (F : FTy → Type) : Type := (⟨S16384, .i32⟩ : BufTy).Contents (Elt F)

/-- The four tables of the code book. -/
def table0 (book : Book F) : Table F := tableOf ![0, 0, 0] slices_S4x1024x64_S1x1024x64_0_0_0 book
@[inherit_doc table0]
def table1 (book : Book F) : Table F := tableOf ![1, 0, 0] slices_S4x1024x64_S1x1024x64_1_0_0 book
@[inherit_doc table0]
def table2 (book : Book F) : Table F := tableOf ![2, 0, 0] slices_S4x1024x64_S1x1024x64_2_0_0 book
@[inherit_doc table0]
def table3 (book : Book F) : Table F := tableOf ![3, 0, 0] slices_S4x1024x64_S1x1024x64_3_0_0 book

/-- The places that a stage chooses for a residual. -/
def choose (res : Rows F) (tbl : Table F) : Places F := placeOf (distOf res tbl)
/-- The codes that a stage takes off a residual. -/
def taken (res : Rows F) (tbl : Table F) : Rows F := codeOf tbl (choose res tbl)
/-- What a stage leaves of a residual. -/
def left (res : Rows F) (tbl : Table F) : Rows F := subf res (taken res tbl)

/-- The residual before the second, the third and the fourth stage. -/
def res1 (z : Rows F) (book : Book F) : Rows F := left z (table0 book)
@[inherit_doc res1]
def res2 (z : Rows F) (book : Book F) : Rows F := left (res1 z book) (table1 book)
@[inherit_doc res1]
def res3 (z : Rows F) (book : Book F) : Rows F := left (res2 z book) (table2 book)

/-- The sum of the four codes of every row. -/
def total (z : Rows F) (book : Book F) : Rows F :=
  Host.reduceAdd
    (stack (F := F)
      (broadcastInDim S1x16384x64 ![1, 2] bcast_S16384x64_S1x16384x64_1_2 (taken z (table0 book)))
      (broadcastInDim S1x16384x64 ![1, 2] bcast_S16384x64_S1x16384x64_1_2 (taken (res1 z book) (table1 book)))
      (broadcastInDim S1x16384x64 ![1, 2] bcast_S16384x64_S1x16384x64_1_2 (taken (res2 z book) (table2 book)))
      (broadcastInDim S1x16384x64 ![1, 2] bcast_S16384x64_S1x16384x64_1_2 (taken (res3 z book) (table3 book))))
    (constant S_ .f32 0x00000000#32) reducesTo_S4x16384x64_S16384x64_d0 h_S_

/-- The first result: the sum of the codes, through the straight-through form. -/
def outOf (z : Rows F) (book : Book F) : Rows F := addf (total z book) (subf z (total z book))

/-- The second result: the places of the four stages, side by side. -/
def placesOf (z : Rows F) (book : Book F) : (⟨S16384x4, .i32⟩ : BufTy).Contents (Elt F) :=
  columns (F := F)
    (broadcastInDim S16384x1 ![0] bcast_S16384_S16384x1_0 (choose z (table0 book)))
    (broadcastInDim S16384x1 ![0] bcast_S16384_S16384x1_0 (choose (res1 z book) (table1 book)))
    (broadcastInDim S16384x1 ![0] bcast_S16384_S16384x1_0 (choose (res2 z book) (table2 book)))
    (broadcastInDim S16384x1 ![0] bcast_S16384_S16384x1_0 (choose (res3 z book) (table3 book)))

/-- The third result: the mean of the squared difference. -/
def lossOf (z : Rows F) (book : Book F) : (⟨S_, .f32⟩ : BufTy).Contents (Elt F) :=
  Host.divf
    (Host.reduceAdd (mulf (subf z (total z book)) (subf z (total z book))) (constant S_ .f32 0x00000000#32)
      reducesTo_S16384x64_S_d0_1 h_S_)
    (constant S_ .f32 0x49800000#32)

variable (V : Valuation τ sig (Elt F))

/-- The buffers after one, two, three and four stages. -/
def past1 : Valuation τ sig (Elt F) := after opsC0 (after opsD0 V)
@[inherit_doc past1]
def past2 : Valuation τ sig (Elt F) := after opsC1 (after opsD1 (past1 V))
@[inherit_doc past1]
def past3 : Valuation τ sig (Elt F) := after opsC2 (after opsD2 (past2 V))
@[inherit_doc past1]
def past4 : Valuation τ sig (Elt F) := after opsC3 (after opsD3 (past3 V))

theorem past1_arg0 : past1 V (Proc.devRef .tc main_arg0) = V (Proc.devRef .tc main_arg0) :=
  (opsC0_keeps (after opsD0 V) (by decide)).trans (opsD0_keeps V (by decide))
theorem past1_arg1 : past1 V (Proc.devRef .tc main_arg1) = V (Proc.devRef .tc main_arg1) :=
  (opsC0_keeps (after opsD0 V) (by decide)).trans (opsD0_keeps V (by decide))
theorem past1_v16 : past1 V (Proc.devRef .tc main_v16)
    = choose (V (Proc.devRef .tc main_arg0)) (table0 (V (Proc.devRef .tc main_arg1))) := by
  rw [past1, opsC0_place, opsD0_dist]; rfl
theorem past1_v17 : past1 V (Proc.devRef .tc main_v17)
    = taken (V (Proc.devRef .tc main_arg0)) (table0 (V (Proc.devRef .tc main_arg1))) := by
  rw [past1, opsC0_code, opsD0_dist, opsD0_table]; rfl
theorem past1_v18 : past1 V (Proc.devRef .tc main_v18)
    = left (V (Proc.devRef .tc main_arg0)) (table0 (V (Proc.devRef .tc main_arg1))) := by
  rw [past1, opsC0_next, opsD0_dist, opsD0_table, opsD0_keeps V (r := main_arg0) (by decide)]; rfl
theorem past2_arg0 : past2 V (Proc.devRef .tc main_arg0) = (past1 V) (Proc.devRef .tc main_arg0) :=
  (opsC1_keeps (after opsD1 (past1 V)) (by decide)).trans (opsD1_keeps (past1 V) (by decide))
theorem past2_arg1 : past2 V (Proc.devRef .tc main_arg1) = (past1 V) (Proc.devRef .tc main_arg1) :=
  (opsC1_keeps (after opsD1 (past1 V)) (by decide)).trans (opsD1_keeps (past1 V) (by decide))
theorem past2_v16 : past2 V (Proc.devRef .tc main_v16) = (past1 V) (Proc.devRef .tc main_v16) :=
  (opsC1_keeps (after opsD1 (past1 V)) (by decide)).trans (opsD1_keeps (past1 V) (by decide))
theorem past2_v17 : past2 V (Proc.devRef .tc main_v17) = (past1 V) (Proc.devRef .tc main_v17) :=
  (opsC1_keeps (after opsD1 (past1 V)) (by decide)).trans (opsD1_keeps (past1 V) (by decide))
theorem past2_v35 : past2 V (Proc.devRef .tc main_v35)
    = choose ((past1 V) (Proc.devRef .tc main_v18)) (table1 ((past1 V) (Proc.devRef .tc main_arg1))) := by
  rw [past2, opsC1_place, opsD1_dist]; rfl
theorem past2_v36 : past2 V (Proc.devRef .tc main_v36)
    = taken ((past1 V) (Proc.devRef .tc main_v18)) (table1 ((past1 V) (Proc.devRef .tc main_arg1))) := by
  rw [past2, opsC1_code, opsD1_dist, opsD1_table]; rfl
theorem past2_v37 : past2 V (Proc.devRef .tc main_v37)
    = left ((past1 V) (Proc.devRef .tc main_v18)) (table1 ((past1 V) (Proc.devRef .tc main_arg1))) := by
  rw [past2, opsC1_next, opsD1_dist, opsD1_table, opsD1_keeps (past1 V) (r := main_v18) (by decide)]; rfl
theorem past3_arg0 : past3 V (Proc.devRef .tc main_arg0) = (past2 V) (Proc.devRef .tc main_arg0) :=
  (opsC2_keeps (after opsD2 (past2 V)) (by decide)).trans (opsD2_keeps (past2 V) (by decide))
theorem past3_arg1 : past3 V (Proc.devRef .tc main_arg1) = (past2 V) (Proc.devRef .tc main_arg1) :=
  (opsC2_keeps (after opsD2 (past2 V)) (by decide)).trans (opsD2_keeps (past2 V) (by decide))
theorem past3_v16 : past3 V (Proc.devRef .tc main_v16) = (past2 V) (Proc.devRef .tc main_v16) :=
  (opsC2_keeps (after opsD2 (past2 V)) (by decide)).trans (opsD2_keeps (past2 V) (by decide))
theorem past3_v17 : past3 V (Proc.devRef .tc main_v17) = (past2 V) (Proc.devRef .tc main_v17) :=
  (opsC2_keeps (after opsD2 (past2 V)) (by decide)).trans (opsD2_keeps (past2 V) (by decide))
theorem past3_v35 : past3 V (Proc.devRef .tc main_v35) = (past2 V) (Proc.devRef .tc main_v35) :=
  (opsC2_keeps (after opsD2 (past2 V)) (by decide)).trans (opsD2_keeps (past2 V) (by decide))
theorem past3_v36 : past3 V (Proc.devRef .tc main_v36) = (past2 V) (Proc.devRef .tc main_v36) :=
  (opsC2_keeps (after opsD2 (past2 V)) (by decide)).trans (opsD2_keeps (past2 V) (by decide))
theorem past3_v54 : past3 V (Proc.devRef .tc main_v54)
    = choose ((past2 V) (Proc.devRef .tc main_v37)) (table2 ((past2 V) (Proc.devRef .tc main_arg1))) := by
  rw [past3, opsC2_place, opsD2_diff, opsD2_norm]; rfl
theorem past3_v55 : past3 V (Proc.devRef .tc main_v55)
    = taken ((past2 V) (Proc.devRef .tc main_v37)) (table2 ((past2 V) (Proc.devRef .tc main_arg1))) := by
  rw [past3, opsC2_code, opsD2_diff, opsD2_norm, opsD2_table]; rfl
theorem past3_v56 : past3 V (Proc.devRef .tc main_v56)
    = left ((past2 V) (Proc.devRef .tc main_v37)) (table2 ((past2 V) (Proc.devRef .tc main_arg1))) := by
  rw [past3, opsC2_next, opsD2_diff, opsD2_norm, opsD2_table, opsD2_keeps (past2 V) (r := main_v37) (by decide)]; rfl
theorem past4_arg0 : past4 V (Proc.devRef .tc main_arg0) = (past3 V) (Proc.devRef .tc main_arg0) :=
  (opsC3_keeps (after opsD3 (past3 V)) (by decide)).trans (opsD3_keeps (past3 V) (by decide))
theorem past4_arg1 : past4 V (Proc.devRef .tc main_arg1) = (past3 V) (Proc.devRef .tc main_arg1) :=
  (opsC3_keeps (after opsD3 (past3 V)) (by decide)).trans (opsD3_keeps (past3 V) (by decide))
theorem past4_v16 : past4 V (Proc.devRef .tc main_v16) = (past3 V) (Proc.devRef .tc main_v16) :=
  (opsC3_keeps (after opsD3 (past3 V)) (by decide)).trans (opsD3_keeps (past3 V) (by decide))
theorem past4_v17 : past4 V (Proc.devRef .tc main_v17) = (past3 V) (Proc.devRef .tc main_v17) :=
  (opsC3_keeps (after opsD3 (past3 V)) (by decide)).trans (opsD3_keeps (past3 V) (by decide))
theorem past4_v35 : past4 V (Proc.devRef .tc main_v35) = (past3 V) (Proc.devRef .tc main_v35) :=
  (opsC3_keeps (after opsD3 (past3 V)) (by decide)).trans (opsD3_keeps (past3 V) (by decide))
theorem past4_v36 : past4 V (Proc.devRef .tc main_v36) = (past3 V) (Proc.devRef .tc main_v36) :=
  (opsC3_keeps (after opsD3 (past3 V)) (by decide)).trans (opsD3_keeps (past3 V) (by decide))
theorem past4_v54 : past4 V (Proc.devRef .tc main_v54) = (past3 V) (Proc.devRef .tc main_v54) :=
  (opsC3_keeps (after opsD3 (past3 V)) (by decide)).trans (opsD3_keeps (past3 V) (by decide))
theorem past4_v55 : past4 V (Proc.devRef .tc main_v55) = (past3 V) (Proc.devRef .tc main_v55) :=
  (opsC3_keeps (after opsD3 (past3 V)) (by decide)).trans (opsD3_keeps (past3 V) (by decide))
theorem past4_v73 : past4 V (Proc.devRef .tc main_v73)
    = choose ((past3 V) (Proc.devRef .tc main_v56)) (table3 ((past3 V) (Proc.devRef .tc main_arg1))) := by
  rw [past4, opsC3_place, opsD3_dist]; rfl
theorem past4_v74 : past4 V (Proc.devRef .tc main_v74)
    = taken ((past3 V) (Proc.devRef .tc main_v56)) (table3 ((past3 V) (Proc.devRef .tc main_arg1))) := by
  rw [past4, opsC3_code, opsD3_dist, opsD3_table]; rfl
theorem past4_v75 : past4 V (Proc.devRef .tc main_v75)
    = left ((past3 V) (Proc.devRef .tc main_v56)) (table3 ((past3 V) (Proc.devRef .tc main_arg1))) := by
  rw [past4, opsC3_next, opsD3_dist, opsD3_table, opsD3_keeps (past3 V) (r := main_v56) (by decide)]; rfl

/-! What the last operations leave. -/

/-- The sum of four arrays of codes. -/
def sumOf (a b c d : Rows F) : Rows F :=
  Host.reduceAdd
    (stack (F := F) (broadcastInDim S1x16384x64 ![1, 2] bcast_S16384x64_S1x16384x64_1_2 a)
      (broadcastInDim S1x16384x64 ![1, 2] bcast_S16384x64_S1x16384x64_1_2 b)
      (broadcastInDim S1x16384x64 ![1, 2] bcast_S16384x64_S1x16384x64_1_2 c)
      (broadcastInDim S1x16384x64 ![1, 2] bcast_S16384x64_S1x16384x64_1_2 d))
    (constant S_ .f32 0x00000000#32) reducesTo_S4x16384x64_S16384x64_d0 h_S_

/-- The sum that the last operations form. -/
abbrev sumAt : Rows F :=
  sumOf (V (Proc.devRef .tc main_v17)) (V (Proc.devRef .tc main_v36)) (V (Proc.devRef .tc main_v55)) (V (Proc.devRef .tc main_v74))

theorem last_out : after lastOps V (Proc.devRef .tc main_v87)
    = addf (sumAt V) (subf (V (Proc.devRef .tc main_arg0)) (sumAt V)) := by
  simp only [lastOps, TRef.binary, TRef.unary, TRef.toBuf, TRef.ofBuf, cast_eq]
  after_results_simp
  try dsimp only [Matrix.cons_val]
  try after_results_simp
  rfl
theorem last_loss : after lastOps V (Proc.devRef .tc main_v85)
    = Host.divf (Host.reduceAdd (mulf (subf (V (Proc.devRef .tc main_arg0)) (sumAt V)) (subf (V (Proc.devRef .tc main_arg0)) (sumAt V)))
        (constant S_ .f32 0x00000000#32) reducesTo_S16384x64_S_d0_1 h_S_) (constant S_ .f32 0x49800000#32) := by
  simp only [lastOps, TRef.binary, TRef.unary, TRef.toBuf, TRef.ofBuf, cast_eq]
  after_results_simp
  try dsimp only [Matrix.cons_val]
  try after_results_simp
  rfl
theorem last_places : after lastOps V (Proc.devRef .tc main_v92)
    = columns (F := F)
      (broadcastInDim S16384x1 ![0] bcast_S16384_S16384x1_0 (V (Proc.devRef .tc main_v16)))
      (broadcastInDim S16384x1 ![0] bcast_S16384_S16384x1_0 (V (Proc.devRef .tc main_v35)))
      (broadcastInDim S16384x1 ![0] bcast_S16384_S16384x1_0 (V (Proc.devRef .tc main_v54)))
      (broadcastInDim S16384x1 ![0] bcast_S16384_S16384x1_0 (V (Proc.devRef .tc main_v73))) := by
  simp only [lastOps, TRef.binary, TRef.unary, TRef.toBuf, TRef.ofBuf, cast_eq]
  after_results_simp
  rfl
theorem last_keeps {r : Ref sig .tc} (h : r ∉ [main_v76, main_v77, main_v78, main_v79, main_v80, main_cst_11, main_v81, main_v82,
      main_v83, main_cst_12, main_v84, main_cst_13, main_v85, main_v86, main_v87, main_v88, main_v89, main_v90, main_v91, main_v92]) :
    after lastOps V (Proc.devRef .tc r) = V (Proc.devRef .tc r) :=
  after_of_writes_sub lastOps V (forall_writes_sub_of_map rfl) h

/-! What the four stages leave. -/

theorem after_ops : after ops V = after lastOps (past4 V) := by
  simp only [ops, after_append, past4, past3, past2, past1]

theorem past1_res : past1 V (Proc.devRef .tc main_v18) = res1 (V (Proc.devRef .tc main_arg0)) (V (Proc.devRef .tc main_arg1)) :=
  past1_v18 V
theorem past2_res : past2 V (Proc.devRef .tc main_v37) = res2 (V (Proc.devRef .tc main_arg0)) (V (Proc.devRef .tc main_arg1)) := by
  rw [past2_v37, past1_res, past1_arg1]; rfl
theorem past3_res : past3 V (Proc.devRef .tc main_v56) = res3 (V (Proc.devRef .tc main_arg0)) (V (Proc.devRef .tc main_arg1)) := by
  rw [past3_v56, past2_res, past2_arg1, past1_arg1]; rfl

theorem sumAt_past : sumAt (past4 V) = total (V (Proc.devRef .tc main_arg0)) (V (Proc.devRef .tc main_arg1)) := by
  rw [sumAt, past4_v17, past3_v17, past2_v17, past1_v17, past4_v36, past3_v36, past2_v36, past1_res, past1_arg1,
    past4_v55, past3_v55, past2_res, past2_arg1, past1_arg1, past4_v74, past3_res, past3_arg1, past2_arg1, past1_arg1]
  rfl
theorem arg0_past : past4 V (Proc.devRef .tc main_arg0) = V (Proc.devRef .tc main_arg0) := by
  rw [past4_arg0, past3_arg0, past2_arg0, past1_arg0]
theorem arg1_past : past4 V (Proc.devRef .tc main_arg1) = V (Proc.devRef .tc main_arg1) := by
  rw [past4_arg1, past3_arg1, past2_arg1, past1_arg1]

theorem ops_out : after ops V (Proc.devRef .tc main_v87) = outOf (V (Proc.devRef .tc main_arg0)) (V (Proc.devRef .tc main_arg1)) := by
  rw [after_ops, last_out, sumAt_past, arg0_past]; rfl
theorem ops_loss : after ops V (Proc.devRef .tc main_v85) = lossOf (V (Proc.devRef .tc main_arg0)) (V (Proc.devRef .tc main_arg1)) := by
  rw [after_ops, last_loss, sumAt_past, arg0_past]; rfl
theorem ops_places : after ops V (Proc.devRef .tc main_v92) = placesOf (V (Proc.devRef .tc main_arg0)) (V (Proc.devRef .tc main_arg1)) := by
  rw [after_ops, last_places, past4_v16, past3_v16, past2_v16, past1_v16, past4_v35, past3_v35, past2_v35, past1_res, past1_arg1,
    past4_v54, past3_v54, past2_res, past2_arg1, past1_arg1, past4_v73, past3_res, past3_arg1, past2_arg1, past1_arg1]
  rfl
theorem ops_arg0 : after ops V (Proc.devRef .tc main_arg0) = V (Proc.devRef .tc main_arg0) := by
  rw [after_ops, last_keeps _ (by decide), arg0_past]
theorem ops_arg1 : after ops V (Proc.devRef .tc main_arg1) = V (Proc.devRef .tc main_arg1) := by
  rw [after_ops, last_keeps _ (by decide), arg1_past]

theorem scopedRefs_none : (Finset.univ.filter fun b : Ref sig .tc => b.isScoped) = ∅ := by decide
theorem scopedSems_none : (Finset.univ.filter fun sm : SemLoc sig => sm.isScoped .tc) = ∅ := by decide

/-- No operation touches anything but the TensorCore's buffers. -/
theorem ops_sub : (ops : List (HloOp τ sig (Elt F))).Forall fun op => op.bufs ⊆ tcRefs τ sig := by
  simp only [ops, opsD0, opsD1, opsD2, opsD3, opsC0, opsC1, opsC2, opsC3, lastOps, tableOps, distOps, normOps, chooseOps, searchOps,
    takeOps, List.forall_append, List.Forall, TRef.binary, TRef.unary, TRef.nullary, TRef.ternary, TRef.quaternary,
    nullary_bufs_sub, unary_bufs_sub, binary_bufs_sub, ternary_bufs_sub, quaternary_bufs_sub, nary_bufs_sub, and_self]
/-- No operation writes a fresh buffer. -/
theorem ops_fresh : (ops : List (HloOp τ sig (Elt F))).Forall fun op => op.fresh = ∅ := forall_fresh_of_map rfl

/-- Every run of the reference ends with its three results at the composed terms of the arguments, and the arguments as they
    were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = outOf (m ((c.tc : Thread nD τ).loc main_arg0)) (m ((c.tc : Thread nD τ).loc main_arg1))
      ∧ r.2.mem ((c.tc : Thread nD τ).loc main_v92) = placesOf (m ((c.tc : Thread nD τ).loc main_arg0)) (m ((c.tc : Thread nD τ).loc main_arg1))
      ∧ r.2.mem ((c.tc : Thread nD τ).loc main_v85) = lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v87).trans (ops_out (launchContents m c)),
      (h c main_v92).trans (ops_places (launchContents m c)), (h c main_v85).trans (ops_loss (launchContents m c)),
      (h c main_arg0).trans (ops_arg0 (launchContents m c)), (h c main_arg1).trans (ops_arg1 (launchContents m c))⟩)
    (run_seq scopedRefs_none scopedSems_none defs main (fun _ => ops) main_eq (fun _ => ops_sub) m ρ
      fun _ => List.forall_iff_forall_mem.mp ops_fresh)

end Cert.RefRun

end
-- ==== Proof.Frames.lean ====
module

public import proofs.«01_k».proof.Proof.Kept
public import proofs.«01_k».proof.Proof.Transfer2
public import proofs.«01_k».proof.Proof.RefResult
public import Idealize.ShloMosaic.Lib.Quiescent

/-!
# The frames of the kernel's text and of the reference
-/

@[expose] public section

set_option maxRecDepth 20000
set_option maxHeartbeats 1600000

noncomputable section

namespace Cert.Frames

open Idealize.ShloMosaic Idealize.ShloMosaic.TcCoe Idealize.SL.Sem

variable {F : FTy → Type} [FloatOps F]

/-- The kernel, over any floats, ends with both arguments as they were and every counter at zero. -/
theorem kernel (m : (ℓ : Loc Kernel.nD Kernel.τ Kernel.sig) → Buf (Elt F) ℓ) (ρ : Dev Kernel.nD → PrngReg) :
    θ_run (@Kernel.defs F _ Kernel.Gen.facts) (onTc (τ := Kernel.τ) (@Kernel.main F _ Kernel.Gen.facts)) ⟨m, fun _ => 0, ρ⟩
      (fun r => (∀ c : Dev Kernel.nD,
        r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
        ∧ r.2.sem = fun _ => 0) := by
  rw [Same.defs_eq, Same.main_eq]
  exact Cert.Rvq.frame m ρ

/-- The reference ends with both arguments as they were and every counter at zero. -/
theorem reference (m : (ℓ : Loc ReferenceIdeal.nD ReferenceIdeal.τ ReferenceIdeal.sig) → Buf (Elt F) ℓ)
    (ρ : Dev ReferenceIdeal.nD → PrngReg) :
    θ_run (ReferenceIdeal.defs (F := F)) (onTc (τ := ReferenceIdeal.τ) (ReferenceIdeal.main (F := F))) ⟨m, fun _ => 0, ρ⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
        ∧ r.2.sem = fun _ => 0) :=
  (RefRun.run m ρ).mono fun r h => ⟨fun c => ⟨(h c).2.2.2.1, (h c).2.2.2.2⟩,
    sem_eq_zero_of_no_sems (nD := ReferenceIdeal.nD) (τ := ReferenceIdeal.τ) (sig := ReferenceIdeal.sig) (by decide) _⟩

end Cert.Frames

end
-- ==== Proof.Spec.lean ====
module

public import Idealize.ShloMosaic.Lib.Pointwise
public import Idealize.ShloMosaic.PureOps.Ideal.Laws

/-!
# One stage of residual quantisation on one row

What both programs compute for one row of a residual and one table of codes, over the extended reals, and the three facts on
which they differ in form: a least place found by two folds, a least place found by a fold over pairs, and a row of a table
picked out by products with zeros and ones.
-/

@[expose] public section

set_option Elab.async false

noncomputable section

namespace Cert.Spec

open Idealize.ShloMosaic

/-- A row of a residual or of a table. -/
abbrev Row : Type := Fin 64 → EReal
/-- A table of codes. -/
abbrev Tbl : Type := Fin 1024 → Row

/-- The distance of a row to a code: the row's squared length less twice their product, and the code's squared length. -/
def dist (x : Row) (tb : Tbl) (k : Fin 1024) : EReal :=
  ((∑ c, x c * x c) - Ideal.ofBits .f32 0x40000000#32 * ∑ c, x c * tb k c) + ∑ c, tb k c * tb k c

/-- `b` is the first place at which `d` is least. -/
def IsBest (d : Fin 1024 → EReal) (b : Fin 1024) : Prop := (∀ j, d b ≤ d j) ∧ ∀ j, d j ≤ d b → b ≤ j

/-- There is such a place. -/
theorem exists_best (d : Fin 1024 → EReal) : ∃ b, IsBest d b := by
  classical
  obtain ⟨k, -, hk⟩ := Finset.exists_min_image Finset.univ d ⟨0, Finset.mem_univ _⟩
  have hne : (Finset.univ.filter fun b => ∀ j, d b ≤ d j).Nonempty :=
    ⟨k, Finset.mem_filter.2 ⟨Finset.mem_univ _, fun j => hk j (Finset.mem_univ _)⟩⟩
  refine ⟨_, (Finset.mem_filter.1 (Finset.min'_mem _ hne)).2, fun j hj => Finset.min'_le _ _ ?_⟩
  exact Finset.mem_filter.2 ⟨Finset.mem_univ _, fun i => hj.trans ((Finset.mem_filter.1 (Finset.min'_mem _ hne)).2 i)⟩

/-- The first place at which `d` is least. -/
def best (d : Fin 1024 → EReal) : Fin 1024 := (exists_best d).choose
theorem best_spec (d : Fin 1024 → EReal) : IsBest d (best d) := (exists_best d).choose_spec

/-- The place of the nearest code. -/
def near (x : Row) (tb : Tbl) : Fin 1024 := best (dist x tb)
/-- What a stage leaves of a row. -/
def next (x : Row) (tb : Tbl) : Row := fun c => x c - tb (near x tb) c

/-! ## The least place by two folds -/

theorem toInt_small (n : Nat) (h : n ≤ 1024) : (BitVec.ofNat 32 n).toInt = n := by
  have h' : n % 2 ^ 32 = n := Nat.mod_eq_of_lt (by omega)
  rw [BitVec.toInt_eq_toNat_of_lt (by rw [BitVec.toNat_ofNat, h']; omega), BitVec.toNat_ofNat, h']

theorem minsi_of_le {a y : BitVec 32} (h : a.toInt ≤ y.toInt) : IntOp.minsi a y = a := by
  unfold IntOp.minsi
  split
  · rfl
  · next hn =>
    rw [BitVec.slt_iff_toInt_lt] at hn
    exact (BitVec.eq_of_toInt_eq (le_antisymm h (not_lt.1 hn))).symm

theorem le_minsi {a x y : BitVec 32} (hx : a.toInt ≤ x.toInt) (hy : a.toInt ≤ y.toInt) : a.toInt ≤ (IntOp.minsi x y).toInt := by
  unfold IntOp.minsi; split <;> assumption

/-- The least of the words at which `p` holds, 1024 elsewhere, is the first place at which `p` holds. -/
theorem fold_minsi (p : Fin 1024 → Prop) [DecidablePred p] (b : Fin 1024) (hb : p b) (hl : ∀ j, p j → b ≤ j) :
    Finset.fold IntOp.minsi 2147483647#32 (fun x : Fin 1024 => if p x then BitVec.ofNat 32 x.val else 1024#32) Finset.univ
      = BitVec.ofNat 32 b.val := by
  have hle : ∀ s : Finset (Fin 1024), (BitVec.ofNat 32 b.val).toInt
      ≤ (Finset.fold IntOp.minsi 2147483647#32 (fun x : Fin 1024 => if p x then BitVec.ofNat 32 x.val else 1024#32) s).toInt := by
    intro s
    have hbv := toInt_small b.val b.isLt.le
    induction s using Finset.induction_on with
    | empty => rw [Finset.fold_empty, hbv]; have := b.isLt; have h : (2147483647#32).toInt = 2147483647 := by decide
               omega
    | insert a s ha ih =>
      rw [Finset.fold_insert ha]
      refine le_minsi ?_ ih
      split
      · next h => rw [hbv, toInt_small _ a.isLt.le]; exact_mod_cast hl a h
      · rw [hbv, show (1024#32).toInt = 1024 by decide]; have := b.isLt; omega
  rw [← Finset.insert_erase (Finset.mem_univ b), Finset.fold_insert (Finset.notMem_erase _ _), if_pos hb]
  exact minsi_of_le (hle _)

/-- The least value by a fold is the value at the best place. -/
theorem fold_min (d : Fin 1024 → EReal) :
    Finset.fold min (Ideal.ofBits .f32 0x7F800000#32) d Finset.univ = d (best d) := by
  have htop : Ideal.ofBits .f32 0x7F800000#32 = ⊤ := by simp [Ideal.ofBits, Ideal.ieee]
  rw [htop]
  refine le_antisymm ((Finset.fold_min_le _).2 (.inr ⟨_, Finset.mem_univ _, le_rfl⟩)) ?_
  exact (Finset.le_fold_min _).2 ⟨le_top, fun j _ => (best_spec d).1 j⟩

/-! ## The least place by a fold over pairs -/

/-- One pair is no larger than another: by value, then by the word. -/
def PairLe (p q : EReal × BitVec 32) : Prop := p.1 < q.1 ∨ p.1 = q.1 ∧ p.2.toInt ≤ q.2.toInt

theorem PairLe.refl (p : EReal × BitVec 32) : PairLe p p := .inr ⟨rfl, le_rfl⟩
theorem PairLe.trans {p q r : EReal × BitVec 32} (h : PairLe p q) (h' : PairLe q r) : PairLe p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A fold that keeps the smaller of two pairs ends with one of the pairs, no larger than any. -/
theorem foldl_least (f : EReal × BitVec 32 → EReal × BitVec 32 → EReal × BitVec 32)
    (hf : ∀ a b, (f a b = a ∨ f a b = b) ∧ PairLe (f a b) a ∧ PairLe (f a b) b) (l : List (EReal × BitVec 32)) :
    ∀ i, l.foldl f i ∈ i :: l ∧ ∀ q ∈ i :: l, PairLe (l.foldl f i) q := by
  induction l with
  | nil => intro i; exact ⟨by simp, by simpa using PairLe.refl i⟩
  | cons a l ih =>
    intro i
    rw [List.foldl_cons]
    obtain ⟨hm, hle⟩ := ih (f i a)
    obtain ⟨hor, hi, ha⟩ := hf i a
    have h0 := hle (f i a) (by simp)
    refine ⟨?_, fun q hq => ?_⟩
    · rcases List.mem_cons.1 hm with h | h
      · rw [h]; rcases hor with h' | h' <;> rw [h'] <;> simp
      · simp [h]
    · rcases List.mem_cons.1 hq with rfl | hq
      · exact h0.trans hi
      · rcases List.mem_cons.1 hq with rfl | hq
        · exact h0.trans ha
        · exact hle q (by simp [hq])

/-- Such a fold from the pair of infinity and zero, over the pairs of a value and its place, ends at the best place. -/
theorem foldl_best (f : EReal × BitVec 32 → EReal × BitVec 32 → EReal × BitVec 32)
    (hf : ∀ a b, (f a b = a ∨ f a b = b) ∧ PairLe (f a b) a ∧ PairLe (f a b) b) (d : Fin 1024 → EReal)
    (l : List (EReal × BitVec 32)) (hl : ∀ q, q ∈ l ↔ ∃ k : Fin 1024, q = (d k, BitVec.ofNat 32 k.val)) :
    (l.foldl f (⊤, 0#32)).2 = BitVec.ofNat 32 (best d).val := by
  obtain ⟨hm, hle⟩ := foldl_least f hf l (⊤, 0#32)
  obtain ⟨hb, hfirst⟩ := best_spec d
  have h := hle (d (best d), BitVec.ofNat 32 (best d).val) (List.mem_cons_of_mem _ ((hl _).2 ⟨_, rfl⟩))
  rcases List.mem_cons.1 hm with e | e
  · rw [e] at h ⊢
    have htop : d (best d) = ⊤ := by
      rcases h with h | h
      · exact absurd h (not_lt.2 le_top)
      · exact h.1.symm
    have := hfirst 0 (by rw [htop]; exact le_top)
    rw [le_antisymm this (Fin.zero_le _)]; rfl
  · obtain ⟨k, ek⟩ := (hl _).1 e
    rw [ek] at h ⊢
    have hk : k = best d := by
      rcases h with h | ⟨h, hi⟩
      · exact absurd h (not_lt.2 (hb k))
      · have h1 := hfirst k h.le
        rw [toInt_small _ k.isLt.le, toInt_small _ (best d).isLt.le] at hi
        exact le_antisymm (Fin.le_def.2 (by exact_mod_cast hi)) h1
    rw [hk]

/-! ## A row picked out by zeros and ones -/

/-- The products with the indicator of the positions that are `g` modulo 256, where only the first 256 are not zero, add up to
    the one at `g`. -/
theorem sum_pick (w p : Fin 768 → EReal) (g : Fin 256) (hw : ∀ x : Fin 768, w x = if x.val % 256 = g.val then 1 else 0)
    (hp : ∀ x : Fin 768, 256 ≤ x.val → p x = 0) : ∑ x, w x * p x = p ⟨g.val, by omega⟩ := by
  rw [Finset.sum_eq_single (⟨g.val, by omega⟩ : Fin 768)]
  · rw [hw, if_pos (Nat.mod_eq_of_lt g.isLt), one_mul]
  · intro x _ hx
    by_cases h : 256 ≤ x.val
    · rw [hp x h, mul_zero]
    · rw [hw, if_neg, zero_mul]
      intro e; exact hx (Fin.ext (by simp only; omega))
  · intro h; exact absurd (Finset.mem_univ _) h

/-- The products of four values with the indicator of `s` add up to the value at `s`. -/
theorem four_pick (w q : Fin 4 → EReal) (s : Fin 4) (hw : ∀ h : Fin 4, w h = if h = s then 1 else 0) :
    w 0 * q 0 + w 1 * q 1 + w 2 * q 2 + w 3 * q 3 = q s := by
  rw [hw 0, hw 1, hw 2, hw 3]
  fin_cases s <;> simp

end Cert.Spec

end
-- ==== Proof.RefStage.lean ====
module

public import proofs.«01_k».proof.Proof.RefResult
public import proofs.«01_k».proof.Proof.Spec
public import Idealize.ShloMosaic.Lib.Pointwise
public import Idealize.ShloMosaic.Lib.Routing.Ops
public import Idealize.ShloMosaic.PureOps.Ideal.Laws

/-!
# A stage of the reference, at a row

Over the extended reals the reference's search finds the first nearest code of every row, its gather takes that code, and what
it leaves is the row less the code.
-/

@[expose] public section

set_option Elab.async false
set_option maxRecDepth 16384

noncomputable section

namespace Cert.RefRun

open Cert.ReferenceIdeal Cert.ReferenceIdeal.Gen Idealize.ShloMosaic Idealize.ShloMosaic.TcCoe
open Cert.Spec (Row Tbl PairLe)

/-- Row `n` of a matrix of rows. -/
abbrev rowAt (A : Rows Ideal) (n : Fin 16384) : Row := fun k => A (ix2 n k)
/-- A table's codes. -/
abbrev codesAt (T : Table Ideal) : Tbl := fun k j => T (ix2 k j)

/-- The reducer of the search keeps one of its two pairs, and the lesser. -/
theorem reducer_least (a b : EReal × BitVec 32) :
    (reducer_argmin_f32_i32 (F := Ideal) a b = a ∨ reducer_argmin_f32_i32 (F := Ideal) a b = b)
      ∧ PairLe (reducer_argmin_f32_i32 (F := Ideal) a b) a ∧ PairLe (reducer_argmin_f32_i32 (F := Ideal) a b) b := by
  obtain ⟨x, i⟩ := a
  obtain ⟨y, j⟩ := b
  have h1 : FloatOps.cmpf (F := Ideal) (φ := .f32) .olt x y = BitVec.ofBool (decide (x < y)) := rfl
  have h2 : FloatOps.cmpf (F := Ideal) (φ := .f32) .une x x = 0#1 := by
    show BitVec.ofBool (decide (x ≠ x)) = 0#1
    simp
  have h3 : FloatOps.cmpf (F := Ideal) (φ := .f32) .oeq x y = BitVec.ofBool (decide (x = y)) := rfl
  have h4 : IntOp.cmpi .slt i j = BitVec.ofBool (decide (i.toInt < j.toInt)) := by
    unfold IntOp.cmpi
    simp only
    congr 1
  have hv : reducer_argmin_f32_i32 (F := Ideal) (x, i) (y, j)
      = (Scalar.select (IntOp.ori (BitVec.ofBool (decide (x < y))) 0#1) x y,
        Scalar.select (IntOp.ori (IntOp.ori (BitVec.ofBool (decide (x < y))) 0#1)
          (IntOp.andi (BitVec.ofBool (decide (x = y))) (BitVec.ofBool (decide (i.toInt < j.toInt))))) i j) := by
    unfold reducer_argmin_f32_i32
    simp only [h1, h2, h3, h4]
  have s1 : ∀ {α : Type} (u v : α), Scalar.select 1#1 u v = u := fun _ _ => rfl
  have s0 : ∀ {α : Type} (u v : α), Scalar.select 0#1 u v = v := fun _ _ => rfl
  have w : ∀ p q r : Bool, IntOp.ori (BitVec.ofBool p) 0#1 = BitVec.ofBool p
      ∧ IntOp.ori (BitVec.ofBool p) (IntOp.andi (BitVec.ofBool q) (BitVec.ofBool r)) = BitVec.ofBool (p || (q && r)) := by decide
  rw [hv, (w _ true true).1, (w _ _ _).2]
  rcases lt_trichotomy x y with h | h | h
  · rw [decide_eq_true h, Bool.true_or, show BitVec.ofBool true = 1#1 from rfl, s1, s1]
    exact ⟨.inl rfl, PairLe.refl _, .inl h⟩
  · subst h
    rw [decide_eq_false (lt_irrefl x), decide_eq_true (rfl : x = x), Bool.false_or, Bool.true_and, show BitVec.ofBool false = 0#1 from rfl, s0]
    by_cases hi : i.toInt < j.toInt
    · rw [decide_eq_true hi, show BitVec.ofBool true = 1#1 from rfl, s1]
      exact ⟨.inl rfl, PairLe.refl _, .inr ⟨rfl, hi.le⟩⟩
    · rw [decide_eq_false hi, show BitVec.ofBool false = 0#1 from rfl, s0]
      exact ⟨.inr rfl, .inr ⟨rfl, not_lt.1 hi⟩, PairLe.refl _⟩
  · rw [decide_eq_false (not_lt.2 h.le), decide_eq_false (ne_of_gt h), Bool.false_or, Bool.false_and, show BitVec.ofBool false = 0#1 from rfl, s0, s0]
    exact ⟨.inr rfl, .inl h, PairLe.refl _⟩

/-- The distances at a row and a code. -/
theorem distOf_at (A : Rows Ideal) (T : Table Ideal) (n : Fin 16384) (k : Fin 1024) :
    distOf A T (ix2 n k) = Spec.dist (rowAt A n) (codesAt T) k := by
  pointwise [distOf, addNorms, diffOf, normOf]
  rfl

/-- The pairs that the search of row `n` goes through. -/
theorem fiber_mem (D : (⟨S16384x1024, .f32⟩ : BufTy).Contents (Elt Ideal)) (n : Fin 16384) (q : EReal × BitVec 32) :
    q ∈ Host.argReduceFiber (α := EReal) D (iotaInDim S16384x1024 32 1) reducesTo_S16384x1024_S16384_d1 (ix1 n)
      ↔ ∃ k : Fin 1024, q = (D (ix2 n k), BitVec.ofNat 32 k.val) := by
  unfold Host.argReduceFiber
  simp only [List.mem_map, List.mem_filter, List.mem_finRange, true_and, decide_eq_true_eq]
  constructor
  · rintro ⟨p, hp, rfl⟩
    generalize S16384x1024.rowMajor.symm p = i at hp
    have h0 : (i (0 : Fin 2)).val = n.val := by
      have := Shape.ReducesTo.drop_apply_val_of_eq reducesTo_S16384x1024_S16384_d1 i (0 : Fin 1) (0 : Fin 2)
      rw [← this, hp]
      rfl
    have hi : i = ix2 n (i (1 : Fin 2)) := by
      funext a
      match a with
      | ⟨0, _⟩ => exact Fin.ext h0
      | ⟨1, _⟩ => rfl
    refine ⟨i (1 : Fin 2), Prod.ext ?_ rfl⟩
    exact congrArg D hi
  · rintro ⟨k, rfl⟩
    refine ⟨S16384x1024.rowMajor (ix2 n k), ?_, ?_⟩
    · rw [Equiv.symm_apply_apply]
      funext a
      match a with
      | ⟨0, _⟩ =>
        exact Fin.ext ((Shape.ReducesTo.drop_apply_val_of_eq reducesTo_S16384x1024_S16384_d1 (ix2 n k) (0 : Fin 1) (0 : Fin 2)).trans rfl)
    · rw [Equiv.symm_apply_apply]; rfl

theorem top_word : (constant S_ .f32 0x7F800000#32 : FVec Ideal S_ .f32) (Shape.Idx.first h_S_) = (⊤ : EReal) := by
  show Ideal.ofBits .f32 0x7F800000#32 = ⊤
  simp [Ideal.ofBits, Ideal.ieee]

/-- The words of an array of pairs. -/
def seconds (G : S16384.Idx → EReal × BitVec 32) : S16384.Idx → BitVec 32 := fun j => (G j).2

theorem seconds_apply (G : S16384.Idx → EReal × BitVec 32) (j : S16384.Idx) {p : EReal × BitVec 32} (h : G j = p) :
    seconds G j = p.2 := congrArg Prod.snd h

/-- The search's pair at a row is a fold over the row's pairs. -/
theorem search_fold (D : (⟨S16384x1024, .f32⟩ : BufTy).Contents (Elt Ideal)) (I : IVec S16384x1024 32) (v : FVec Ideal S_ .f32)
    (w : IVec S_ 32) (hv : v (Shape.Idx.first h_S_) = (⊤ : EReal)) (hw : w (Shape.Idx.first h_S_) = 0#32) (j : S16384.Idx) :
    Host.argReduce (F := Ideal) reducer_argmin_f32_i32 D I v w reducesTo_S16384x1024_S16384_d1 h_S_ j
      = (Host.argReduceFiber (α := EReal) D I reducesTo_S16384x1024_S16384_d1 j).foldl
        (reducer_argmin_f32_i32 (F := Ideal)) (⊤, 0#32) := by
  rw [Ideal.argReduce_eq_reduce2, Host.reduce2_eq_foldl_fiber, hv, hw]

theorem placeOf_eq (D : (⟨S16384x1024, .f32⟩ : BufTy).Contents (Elt Ideal)) :
    placeOf D = seconds (Host.argReduce (F := Ideal) reducer_argmin_f32_i32 D (iotaInDim S16384x1024 32 1)
      (constant S_ .f32 0x7F800000#32) (constantI S_ 32 0#32) reducesTo_S16384x1024_S16384_d1 h_S_) := rfl

/-- The search finds the place of the nearest code. -/
theorem choose_at (A : Rows Ideal) (T : Table Ideal) (n : Fin 16384) :
    choose A T (ix1 n) = BitVec.ofNat 32 (Spec.near (rowAt A n) (codesAt T)).val := by
  have h := seconds_apply _ (ix1 n) (search_fold (distOf A T) (iotaInDim S16384x1024 32 1) (constant S_ .f32 0x7F800000#32)
    (constantI S_ 32 0#32) top_word rfl (ix1 n))
  rw [← placeOf_eq] at h
  exact h.trans (Spec.foldl_best _ reducer_least (Spec.dist (rowAt A n) (codesAt T)) _ fun q =>
    (fiber_mem (distOf A T) n q).trans (exists_congr fun k => by rw [distOf_at]))

end Cert.RefRun

end
-- ==== Proof.RefTake.lean ====
module

public import proofs.«01_k».proof.Proof.RefStage

/-!
# What a stage of the reference takes and leaves

The gather behind the search, the four tables of the code book, and the sum of the four codes, each at an index.
-/

@[expose] public section

set_option Elab.async false
set_option maxRecDepth 16384

noncomputable section

namespace Cert.RefRun

open Cert.ReferenceIdeal Cert.ReferenceIdeal.Gen Idealize.ShloMosaic Idealize.ShloMosaic.TcCoe

/-- A place within the table is not wrapped. -/
theorem wrapOf_at (idx : Places Ideal) (n : Fin 16384) (b : Fin 1024) (h : idx (ix1 n) = BitVec.ofNat 32 b.val) :
    wrapOf (F := Ideal) idx (ix2 n 0) = BitVec.ofNat 32 b.val := by
  have hs : IntOp.cmpi .slt (BitVec.ofNat 32 b.val) 0#32 = 0#1 := by
    unfold IntOp.cmpi
    have := Spec.toInt_small b.val b.isLt.le
    simp only [BitVec.slt_eq_decide, this]
    rw [decide_eq_false (by simp)]
    rfl
  pointwise [wrapOf]
  simp only [h, hs]
  rfl

/-- Such a place is inside the table. -/
theorem insideOf_at (w : (⟨S16384x1, .i32⟩ : BufTy).Contents (Elt Ideal)) (n : Fin 16384) (b : Fin 1024)
    (h : w (ix2 n 0) = BitVec.ofNat 32 b.val) : insideOf (F := Ideal) w (ix1 n) = 1#1 := by
  have hb := Spec.toInt_small b.val b.isLt.le
  have h0 : IntOp.cmpi .sge (BitVec.ofNat 32 b.val) 0#32 = 1#1 := by
    unfold IntOp.cmpi
    simp only [BitVec.sle_eq_decide, hb]
    rw [decide_eq_true (by simp)]
    rfl
  have h1 : IntOp.cmpi .sle (BitVec.ofNat 32 b.val) 1023#32 = 1#1 := by
    unfold IntOp.cmpi
    simp only [BitVec.sle_eq_decide, hb]
    rw [decide_eq_true (by have := b.isLt; have e : (1023#32).toInt = 1023 := by decide
                           omega)]
    rfl
  pointwise [insideOf]
  rw [Finset.univ_unique, Finset.fold_singleton]
  have e : w (ix2 n (default : Fin 1)) = BitVec.ofNat 32 b.val := h
  rw [e, h0, h1]
  rfl

/-- The codes at given places. -/
theorem codeOf_at (T : Table Ideal) (idx : Places Ideal) (n : Fin 16384) (k : Fin 64) (b : Fin 1024)
    (h : idx (ix1 n) = BitVec.ofNat 32 b.val) : codeOf T idx (ix2 n k) = T (ix2 b k) := by
  have hg : Host.gather gather_S1024x64_S16384x1_S16384x64_1_0_n_n_0_1_164 T (wrapOf (F := Ideal) idx) (ix2 n k) = T (ix2 b k) := by
    have e := Routing.gather_row gather_S1024x64_S16384x1_S16384x64_1_0_n_n_0_1_164 rfl rfl rfl rfl rfl T (wrapOf (F := Ideal) idx) n k b
      (by rw [← ix2_eq_valueIdx]; exact wrapOf_at idx n b h) (by norm_num)
    rw [← ix2_eq_valueIdx, ← ix2_eq_valueIdx] at e
    exact e
  pointwise [codeOf]
  rw [insideOf_at _ n b (wrapOf_at idx n b h), hg]
  rfl

/-- A stage takes the nearest code off every row. -/
theorem taken_at (A : Rows Ideal) (T : Table Ideal) (n : Fin 16384) (k : Fin 64) :
    taken A T (ix2 n k) = codesAt T (Spec.near (rowAt A n) (codesAt T)) k :=
  codeOf_at T _ n k _ (choose_at A T n)

/-- What a stage leaves of every row. -/
theorem left_at (A : Rows Ideal) (T : Table Ideal) (n : Fin 16384) (k : Fin 64) :
    left A T (ix2 n k) = Spec.next (rowAt A n) (codesAt T) k :=
  congrArg (fun v : EReal => A (ix2 n k) - v) (taken_at A T n k)

/-! The four tables. -/

theorem table0_at (book : Book Ideal) (k : Fin 1024) (j : Fin 64) : table0 book (ix2 k j) = book (ix3 0 k j) := by
  pointwise [table0, tableOf]
theorem table1_at (book : Book Ideal) (k : Fin 1024) (j : Fin 64) : table1 book (ix2 k j) = book (ix3 1 k j) := by
  pointwise [table1, tableOf]
theorem table2_at (book : Book Ideal) (k : Fin 1024) (j : Fin 64) : table2 book (ix2 k j) = book (ix3 2 k j) := by
  pointwise [table2, tableOf]
theorem table3_at (book : Book Ideal) (k : Fin 1024) (j : Fin 64) : table3 book (ix2 k j) = book (ix3 3 k j) := by
  pointwise [table3, tableOf]

/-- The sum of four arrays of codes. -/
theorem sumOf_at (a b d e : Rows Ideal) (n : Fin 16384) (k : Fin 64) :
    sumOf a b d e (ix2 n k) = a (ix2 n k) + b (ix2 n k) + d (ix2 n k) + e (ix2 n k) := by
  pointwise [sumOf, stack]
  rw [Fin.sum_univ_four]
  rfl

end Cert.RefRun

end
-- ==== Proof.StageValue.lean ====
module

public import proofs.«01_k».proof.Proof.LastStage
public import proofs.«01_k».proof.Proof.Spec
public import Idealize.ShloMosaic.Lib.Pipeline.Value

/-!
# What a stage's body leaves of one row of a block

At the extended reals: the body's place is the first of the nearest codes, and its residual is the row less that code.
-/

@[expose] public section

set_option Elab.async false
set_option maxRecDepth 16384

noncomputable section

namespace Cert.Rvq

open Cert.KernelIdeal Cert.KernelIdeal.Gen Idealize.ShloMosaic Idealize.ShloMosaic.TcCoe
open Cert.Spec (Row Tbl)

/-- Row `r` of a block. -/
abbrev rowOf (v : Vec Ideal S2048x64 .f32) (r : Fin 2048) : Row := fun c => v (ix2 r c)
/-- A block of one table. -/
abbrev tblOf (v : Vec Ideal S1x1024x64 .f32) : Tbl := fun k c => v (ix3 0 k c)

variable (v0 : Vec Ideal S2048x64 .f32) (v1 : Vec Ideal S2048x1 .f32) (v3 : Vec Ideal S1x1024x64 .f32)
  (v5 : Vec Ideal S1x1x1024 .f32) (v36 : Vec Ideal S1x768x256 .bf16) (r : Fin 2048)

/-- The body's place, at a row whose squared length and whose codes' squared lengths are given it. -/
theorem place_at (h1 : v1 (ix2 r 0) = ∑ c, rowOf v0 r c * rowOf v0 r c)
    (h5 : ∀ k, v5 (ix3 0 0 k) = ∑ c, tblOf v3 k c * tblOf v3 k c) :
    k0_pay2 v0 v1 v3 v5 (ix2 r 0) = BitVec.ofNat 32 (Spec.near (rowOf v0 r) (tblOf v3)).val := by
  have hd : (fun x : Fin 1024 => v1 (ix2 r 0) - Ideal.ofBits FTy.f32 1073741824#32 * ∑ c, v0 (ix2 r c) * v3 (ix3 0 x c)
      + v5 (ix3 0 0 x)) = Spec.dist (rowOf v0 r) (tblOf v3) := by
    funext k; rw [h1, h5 k]; rfl
  have hb := Spec.best_spec (Spec.dist (rowOf v0 r) (tblOf v3))
  pointwise [k0_pay2]
  rw [hd, Spec.fold_min]
  refine Spec.fold_minsi _ _ (congrFun hd _) fun j hj => hb.2 j ?_
  exact ((congrFun hd j).symm.trans hj).le

/-- Of a place's word, the shift by two is the place's quotient by four, the low two bits the remainder. -/
theorem near_split (n : Nat) (h : n < 1024) : IntOp.shrsi ArithUnit.vector (BitVec.ofNat 32 n) 2#32 = BitVec.ofNat 32 (n / 4)
    ∧ IntOp.andi (BitVec.ofNat 32 n) 3#32 = BitVec.ofNat 32 (n % 4) := by
  revert n; decide
/-- Of a position's word, the low eight bits are its remainder by 256. -/
theorem low_byte (n : Nat) (h : n < 768) : IntOp.andi (BitVec.ofNat 32 n) 255#32 = BitVec.ofNat 32 (n % 256) := by
  revert n; decide

/-- The number made of the comparison of two small words is one where they are equal, zero elsewhere. -/
theorem indicator (a b : Nat) (ha : a < 1024) (hb : b < 1024) :
    (FloatOps.sitofp FTy.f32 (BitVec.setWidth 32 (IntOp.cmpi CmpIPredicate.eq (BitVec.ofNat 32 a) (BitVec.ofNat 32 b))) : Ideal .f32)
      = if a = b then (1 : EReal) else 0 := by
  show (((BitVec.setWidth 32 (IntOp.cmpi CmpIPredicate.eq (BitVec.ofNat 32 a) (BitVec.ofNat 32 b))).toInt : ℝ) : EReal) = _
  by_cases h : a = b
  · subst h; rw [if_pos rfl, show IntOp.cmpi CmpIPredicate.eq (BitVec.ofNat 32 a) (BitVec.ofNat 32 a) = 1#1 by simp [IntOp.cmpi]]
    rw [show (BitVec.setWidth 32 1#1).toInt = 1 by decide]; simp
  · have hne : BitVec.ofNat 32 a ≠ BitVec.ofNat 32 b := fun e => h (by
      have := congrArg BitVec.toNat e
      rwa [BitVec.toNat_ofNat, BitVec.toNat_ofNat, Nat.mod_eq_of_lt (by omega), Nat.mod_eq_of_lt (by omega)] at this)
    rw [if_neg h, show IntOp.cmpi CmpIPredicate.eq (BitVec.ofNat 32 a) (BitVec.ofNat 32 b) = 0#1 by
      unfold IntOp.cmpi; simp only; rw [beq_eq_false_iff_ne.2 hne]; rfl]
    rw [show (BitVec.setWidth 32 0#1).toInt = 0 by decide]; simp

/-- A block of planes holds the table: four codes to a row in its first plane, zeros in the others. -/
def HoldsTbl (v36 : Vec Ideal S1x768x256 .bf16) (tb : Tbl) : Prop :=
  (∀ (g : Fin 256) (h : Fin 4) (c : Fin 64),
      v36 (ix3 0 ⟨g.val, by omega⟩ ⟨64 * h.val + c.val, by omega⟩) = tb ⟨4 * g.val + h.val, by omega⟩ c)
    ∧ ∀ (x : Fin 768) (y : Fin 256), 256 ≤ x.val → v36 (ix3 0 x y) = 0

/-- The body's residual at a row, from the place `n` that its one-hot operands were made of. -/
theorem left_at (tb : Tbl) (hv : HoldsTbl v36 tb) (sub : IVec S2048x1 32) (oh : FVec Ideal S2048x768 .bf16) (n : Fin 1024)
    (hs : sub (ix2 r 0) = BitVec.ofNat 32 (n.val % 4))
    (ho : ∀ x : Fin 768, oh (ix2 r x) = if x.val % 256 = n.val / 4 then (1 : EReal) else 0) (c : Fin 64) :
    k0_pay1 v0 sub oh v36 (ix2 r c) = rowOf v0 r c - tb n c := by
  have hp : ∀ h : Fin 4, (∑ x : Fin 768, oh (ix2 r x) * v36 (ix3 0 x ⟨64 * h.val + c.val, by omega⟩))
      = tb ⟨4 * (n.val / 4) + h.val, by omega⟩ c := fun h =>
    (Spec.sum_pick _ _ ⟨n.val / 4, by omega⟩ ho fun x hx => hv.2 x _ hx).trans (hv.1 ⟨n.val / 4, by omega⟩ h c)
  have h4 := Spec.four_pick (fun h => if n.val % 4 = h.val then (1 : EReal) else 0) (fun h => tb ⟨4 * (n.val / 4) + h.val, by omega⟩ c)
    ⟨n.val % 4, by omega⟩ fun h => by simp only [Fin.ext_iff, eq_comm]
  have hn : (⟨4 * (n.val / 4) + n.val % 4, by omega⟩ : Fin 1024) = n := Fin.ext (Nat.div_add_mod _ _)
  have hp0 := hp 0
  have hp1 := hp 1
  have hp2 := hp 2
  have hp3 := hp 3
  simp only [Fin.val_zero, Nat.mul_zero, Nat.zero_add, Nat.add_zero, Fin.val_one, Fin.val_two, Nat.mul_one, Nat.reduceMul,
    show (3 : Fin 4).val = 3 from rfl] at hp0 hp1 hp2 hp3 h4
  rw [hn] at h4
  pointwise [k0_pay1]
  rw [hs, hp0, hp1, hp2, hp3, indicator _ 0 (by omega) (by omega), indicator _ 1 (by omega) (by omega),
    indicator _ 2 (by omega) (by omega), indicator _ 3 (by omega) (by omega)]
  rw [h4]

/-- The body's residual at a row. -/
theorem new_at (h1 : v1 (ix2 r 0) = ∑ c, rowOf v0 r c * rowOf v0 r c)
    (h5 : ∀ k, v5 (ix3 0 0 k) = ∑ c, tblOf v3 k c * tblOf v3 k c) (hv : HoldsTbl v36 (tblOf v3)) (c : Fin 64) :
    k0_new v0 v1 v3 v5 v36 (ix2 r c) = Spec.next (rowOf v0 r) (tblOf v3) c := by
  have hpl := place_at v0 v1 v3 v5 r h1 h5
  refine left_at v0 v36 r (tblOf v3) hv _ _ (Spec.near (rowOf v0 r) (tblOf v3)) ?_ ?_ c
  · pointwise [k0_pay3]
    rw [hpl]; exact (near_split _ (Fin.isLt _)).2
  · intro x
    pointwise [k0_pay4]
    rw [hpl, (near_split _ (Fin.isLt _)).1, low_byte _ x.isLt]
    exact indicator _ _ (by omega) (by omega)

/-! The other stages' bodies are the first one's, through a reshape of the residual to its own shape. -/

theorem k1_pay3_eq : k1_pay3 (F := Ideal) v0 v1 v3 v5 = k0_pay2 v0 v1 v3 v5 := by
  have e : k1_pay2 (F := Ideal) v0 = v0 := shapeCast_self _ _
  unfold k1_pay3; rw [e]; rfl
theorem k2_pay3_eq : k2_pay3 (F := Ideal) v0 v1 v3 v5 = k0_pay2 v0 v1 v3 v5 := by
  have e : k2_pay2 (F := Ideal) v0 = v0 := shapeCast_self _ _
  unfold k2_pay3; rw [e]; rfl
theorem k3_pay4_eq : k3_pay4 (F := Ideal) v0 v1 v3 v5 = k0_pay2 v0 v1 v3 v5 := by
  have e : k3_pay3 (F := Ideal) v0 = v0 := shapeCast_self _ _
  unfold k3_pay4; rw [e]; rfl
theorem k1_new_eq : k1_new (F := Ideal) v0 v1 v3 v5 v36 = k0_new v0 v1 v3 v5 v36 := by
  have e : k1_pay2 (F := Ideal) v0 = v0 := shapeCast_self _ _
  unfold k1_new k0_new k1_pay4 k0_pay3 k1_pay5 k0_pay4; rw [k1_pay3_eq, e]; rfl
theorem k2_new_eq : k2_new (F := Ideal) v0 v1 v3 v5 v36 = k0_new v0 v1 v3 v5 v36 := by
  have e : k2_pay2 (F := Ideal) v0 = v0 := shapeCast_self _ _
  unfold k2_new k0_new k2_pay4 k0_pay3 k2_pay5 k0_pay4; rw [k2_pay3_eq, e]; rfl

variable (z : Vec Ideal S2048x64 .f32)

/-- The last body's sum of codes: the original rows less what the four stages leave. -/
theorem sum_eq : k3_pay7 (F := Ideal) (k3_pay3 v0) (k3_pay5 v0 v1 v3 v5) (k3_pay6 v0 v1 v3 v5) v36 z
    = subf z (k0_new v0 v1 v3 v5 v36) := by
  have e : k3_pay3 (F := Ideal) v0 = v0 := shapeCast_self _ _
  unfold k3_pay7 k0_new k3_pay5 k0_pay3 k3_pay6 k0_pay4; rw [k3_pay4_eq, e]; rfl

/-- The last body's first result at a row. -/
theorem out_at (h1 : v1 (ix2 r 0) = ∑ c, rowOf v0 r c * rowOf v0 r c)
    (h5 : ∀ k, v5 (ix3 0 0 k) = ∑ c, tblOf v3 k c * tblOf v3 k c) (hv : HoldsTbl v36 (tblOf v3)) (c : Fin 64) :
    k3_out v0 v1 v3 v5 v36 z (ix2 r c)
      = (z (ix2 r c) - Spec.next (rowOf v0 r) (tblOf v3) c)
        + (z (ix2 r c) - (z (ix2 r c) - Spec.next (rowOf v0 r) (tblOf v3) c)) := by
  rw [← new_at v0 v1 v3 v5 v36 r h1 h5 hv c]
  unfold k3_out k3_pay8; rw [sum_eq]; rfl

/-- The last body's sum over a block of the squared differences. -/
theorem part_at (h1 : ∀ r, v1 (ix2 r 0) = ∑ c, rowOf v0 r c * rowOf v0 r c)
    (h5 : ∀ k, v5 (ix3 0 0 k) = ∑ c, tblOf v3 k c * tblOf v3 k c) (hv : HoldsTbl v36 (tblOf v3)) :
    k3_part v0 v1 v3 v5 v36 z (ix2 0 0)
      = ∑ r : Fin 2048, ∑ c : Fin 64, (z (ix2 r c) - (z (ix2 r c) - Spec.next (rowOf v0 r) (tblOf v3) c))
          * (z (ix2 r c) - (z (ix2 r c) - Spec.next (rowOf v0 r) (tblOf v3) c)) := by
  have e : ∀ r c, k0_new v0 v1 v3 v5 v36 (ix2 r c) = Spec.next (rowOf v0 r) (tblOf v3) c := fun r c =>
    new_at v0 v1 v3 v5 v36 r (h1 r) h5 hv c
  unfold k3_part k3_pay9; rw [sum_eq]
  generalize k0_new v0 v1 v3 v5 v36 = X at e
  pointwise []
  simp only [e]

/-- The running sum, and the last one scaled. -/
theorem pay1_at (p q : FVec Ideal S1x1 .f32) : k3_pay1 p q (ix2 0 0) = q (ix2 0 0) + p (ix2 0 0) := by
  pointwise [k3_pay1]
@[inherit_doc pay1_at]
theorem pay2_at (p q : FVec Ideal S1x1 .f32) :
    k3_pay2 p q (ix2 0 0) = (q (ix2 0 0) + p (ix2 0 0)) * Ideal.ofBits .f32 0x35800000#32 := by
  pointwise [k3_pay2]

end Cert.Rvq

end
-- ==== Proof.Arrays.lean ====
module

public import proofs.«01_k».proof.Proof.StageValue
public import proofs.«01_k».proof.Proof.Run
public import Idealize.ShloMosaic.Lib.Pipeline.ValueKit
public import Idealize.ShloMosaic.Lib.Pipeline.Covers

/-!
# What each stage leaves in its arrays

A stage runs over eight blocks of 2048 rows. From what its input arrays hold (the residual, its rows' squared lengths, the code
book, the codes' squared lengths, the planes) the whole output arrays follow: the places and the next residual; of the last
stage the places, the quantised rows and the sum of the squared differences, scaled.
-/

@[expose] public section

set_option Elab.async false
set_option maxRecDepth 16384

noncomputable section

namespace Cert.Rvq

open Cert.KernelIdeal Cert.KernelIdeal.Gen Idealize.ShloMosaic Idealize.ShloMosaic.TcCoe
open Idealize.ShloMosaic.Pipeline (Dat Cfg Window afterRegion)
open Cert.Spec (Row Tbl)

/-- Row `n` of a matrix of rows. -/
abbrev rowAt (A : Vec Ideal S16384x64 .f32) (n : Fin 16384) : Row := fun k => A (ix2 n k)
/-- Table `s` of the code book. -/
abbrev tblAt (B : Vec Ideal S4x1024x64 .f32) (s : Fin 4) : Tbl := fun k j => B (ix3 s k j)

/-- The arrays beside a residual and a code book are what the host makes of them. -/
structure Inputs (A0 : Vec Ideal S16384x64 .f32) (A1 : Vec Ideal S16384x1 .f32) (A2 : Vec Ideal S4x1024x64 .f32)
    (A3 : Vec Ideal S4x768x256 .bf16) (A4 : Vec Ideal S4x1x1024 .f32) : Prop where
  lengths : ∀ n, A1 (ix2 n 0) = ∑ k, rowAt A0 n k * rowAt A0 n k
  norms : ∀ s k, A4 (ix3 s 0 k) = ∑ j, tblAt A2 s k j * tblAt A2 s k j
  codes : ∀ (s : Fin 4) (g : Fin 256) (h : Fin 4) (j : Fin 64),
    A3 (ix3 s ⟨g.val, by omega⟩ ⟨64 * h.val + j.val, by omega⟩) = tblAt A2 s ⟨4 * g.val + h.val, by omega⟩ j
  zeros : ∀ (s : Fin 4) (x : Fin 768) (y : Fin 256), 256 ≤ x.val → A3 (ix3 s x y) = 0

/-- The row of the arrays that row `r` of block `t` is. -/
abbrev place (t : Fin 8) (r : Fin 2048) : Fin 16384 := ⟨t.val * 2048 + r.val, by omega⟩

/-- Blocks `b0` to `b4` are the arrays' blocks at point `t` of stage `s`. -/
structure Reads (A0 : Vec Ideal S16384x64 .f32) (A1 : Vec Ideal S16384x1 .f32) (A2 : Vec Ideal S4x1024x64 .f32)
    (A3 : Vec Ideal S4x768x256 .bf16) (A4 : Vec Ideal S4x1x1024 .f32) (s : Fin 4) (t : Fin 8)
    (b0 : Vec Ideal S2048x64 .f32) (b1 : Vec Ideal S2048x1 .f32) (b2 : Vec Ideal S1x1024x64 .f32)
    (b3 : Vec Ideal S1x768x256 .bf16) (b4 : Vec Ideal S1x1x1024 .f32) : Prop where
  r0 : ∀ r k, b0 (ix2 r k) = A0 (ix2 (place t r) k)
  r1 : ∀ r, b1 (ix2 r 0) = A1 (ix2 (place t r) 0)
  r2 : ∀ k j, b2 (ix3 0 k j) = A2 (ix3 s k j)
  r3 : ∀ x y, b3 (ix3 0 x y) = A3 (ix3 s x y)
  r4 : ∀ k, b4 (ix3 0 0 k) = A4 (ix3 s 0 k)

section Point

variable {A0 : Vec Ideal S16384x64 .f32} {A1 : Vec Ideal S16384x1 .f32} {A2 : Vec Ideal S4x1024x64 .f32}
  {A3 : Vec Ideal S4x768x256 .bf16} {A4 : Vec Ideal S4x1x1024 .f32} {s : Fin 4} {t : Fin 8}
  {b0 : Vec Ideal S2048x64 .f32} {b1 : Vec Ideal S2048x1 .f32} {b2 : Vec Ideal S1x1024x64 .f32}
  {b3 : Vec Ideal S1x768x256 .bf16} {b4 : Vec Ideal S1x1x1024 .f32}

theorem Reads.row (R : Reads A0 A1 A2 A3 A4 s t b0 b1 b2 b3 b4) (r : Fin 2048) : rowOf b0 r = rowAt A0 (place t r) :=
  funext fun k => R.r0 r k
theorem Reads.tbl (R : Reads A0 A1 A2 A3 A4 s t b0 b1 b2 b3 b4) : tblOf b2 = tblAt A2 s := funext fun k => funext fun j => R.r2 k j
theorem Reads.lengths (R : Reads A0 A1 A2 A3 A4 s t b0 b1 b2 b3 b4) (H : Inputs A0 A1 A2 A3 A4) (r : Fin 2048) :
    b1 (ix2 r 0) = ∑ k, rowOf b0 r k * rowOf b0 r k := by rw [R.row, R.r1, H.lengths]
theorem Reads.norms (R : Reads A0 A1 A2 A3 A4 s t b0 b1 b2 b3 b4) (H : Inputs A0 A1 A2 A3 A4) (k : Fin 1024) :
    b4 (ix3 0 0 k) = ∑ j, tblOf b2 k j * tblOf b2 k j := by rw [R.tbl, R.r4, H.norms]
theorem Reads.holds (R : Reads A0 A1 A2 A3 A4 s t b0 b1 b2 b3 b4) (H : Inputs A0 A1 A2 A3 A4) : HoldsTbl b3 (tblOf b2) := by
  rw [R.tbl]
  exact ⟨fun g h j => (R.r3 _ _).trans (H.codes s g h j), fun x y hx => (R.r3 _ _).trans (H.zeros s x y hx)⟩

/-- The word of the nearest code of a row. -/
abbrev word (A0 : Vec Ideal S16384x64 .f32) (A2 : Vec Ideal S4x1024x64 .f32) (s : Fin 4) (n : Fin 16384) : BitVec 32 :=
  BitVec.ofNat 32 (Spec.near (rowAt A0 n) (tblAt A2 s)).val

/-- What a point leaves as places, and as residual, in terms of the arrays. -/
theorem Reads.place_eq (R : Reads A0 A1 A2 A3 A4 s t b0 b1 b2 b3 b4) (H : Inputs A0 A1 A2 A3 A4) (r : Fin 2048) :
    k0_pay2 b0 b1 b2 b4 (ix2 r 0) = word A0 A2 s (place t r) := by
  rw [place_at b0 b1 b2 b4 r (R.lengths H r) (R.norms H), R.row, R.tbl]
@[inherit_doc Reads.place_eq]
theorem Reads.new_eq (R : Reads A0 A1 A2 A3 A4 s t b0 b1 b2 b3 b4) (H : Inputs A0 A1 A2 A3 A4) (r : Fin 2048) (k : Fin 64) :
    k0_new b0 b1 b2 b4 b3 (ix2 r k) = Spec.next (rowAt A0 (place t r)) (tblAt A2 s) k := by
  rw [new_at b0 b1 b2 b4 b3 r (R.lengths H r) (R.norms H) (R.holds H), R.row, R.tbl]

end Point

/-- The places of all rows at stage `s`. -/
def placesArr (A0 : Vec Ideal S16384x64 .f32) (A2 : Vec Ideal S4x1024x64 .f32) (s : Fin 4) : Vec Ideal S16384x1 .i32 :=
  fun i => word A0 A2 s (i 0)
/-- What stage `s` leaves of all rows. -/
def nextArr (A0 : Vec Ideal S16384x64 .f32) (A2 : Vec Ideal S4x1024x64 .f32) (s : Fin 4) : Vec Ideal S16384x64 .f32 :=
  fun i => Spec.next (rowAt A0 (i 0)) (tblAt A2 s) (i 1)

/-- The sums of squares of the differences of the last stage, over one row. -/
def rowLoss (z : Row) (next : Row) : EReal := ∑ k, (z k - (z k - next k)) * (z k - (z k - next k))
/-- The quantised rows, in the straight-through form. -/
def throughArr (Z A0 : Vec Ideal S16384x64 .f32) (A2 : Vec Ideal S4x1024x64 .f32) (s : Fin 4) : Vec Ideal S16384x64 .f32 :=
  fun i => (Z i - nextArr A0 A2 s i) + (Z i - (Z i - nextArr A0 A2 s i))

variable {A0 Z : Vec Ideal S16384x64 .f32} {A2 : Vec Ideal S4x1024x64 .f32} {s : Fin 4} {t : Fin 8} {r : Fin 2048}

/-- An index whose row is row `r` of block `t`. -/
theorem col_eq {i : S16384x1.Idx} (h : (i (0 : Fin 2)).val = (t.val * 2048 + r.val : ℕ)) : i = ix2 (place t r) 0 := by
  have e : i (0 : Fin 2) = place t r := Fin.ext h
  have e' : i (1 : Fin 2) = (0 : Fin 1) := Subsingleton.elim (α := Fin 1) _ _
  funext a
  match a with
  | ⟨0, _⟩ => exact e
  | ⟨1, _⟩ => exact e'
@[inherit_doc col_eq]
theorem row_eq {i : S16384x64.Idx} {k : Fin 64} (h : (i (0 : Fin 2)).val = (t.val * 2048 + r.val : ℕ)) (h' : (i (1 : Fin 2)).val = k.val) :
    i = ix2 (place t r) k := by
  have e : i (0 : Fin 2) = place t r := Fin.ext h
  have e' : i (1 : Fin 2) = k := Fin.ext h'
  funext a
  match a with
  | ⟨0, _⟩ => exact e
  | ⟨1, _⟩ => exact e'

end Cert.Rvq

end
-- ==== Proof.HostValues.lean ====
module

public import proofs.«01_k».proof.Proof.Arrays
public import Idealize.ShloMosaic.Lib.Pointwise

/-!
# What the host makes of a residual and of the code book

The squared lengths of the rows and of the codes, and the three planes of the codes: over the extended reals the first is the
code book, and of a finite code book the other two are zero.
-/

@[expose] public section

set_option Elab.async false
set_option maxRecDepth 16384

noncomputable section

namespace Cert.Rvq

open Cert.KernelIdeal Cert.KernelIdeal.Gen Idealize.ShloMosaic Idealize.ShloMosaic.TcCoe Idealize.ShloMosaic.StableHlo

/-- The squared lengths of the rows, as a column. -/
def lengthsOf (A : Vec Ideal S16384x64 .f32) : Vec Ideal S16384x1 .f32 :=
  broadcastInDim S16384x1 ![0] bcast_S16384_S16384x1_0
    (Host.reduceAdd (F := Ideal) (mulf A A) (constant S_ .f32 0x00000000#32) reducesTo_S16384x64_S16384_d1 h_S_)
/-- The squared lengths of the codes. -/
def normsOf (B : Vec Ideal S4x1024x64 .f32) : Vec Ideal S4x1x1024 .f32 :=
  broadcastInDim S4x1x1024 ![0, 2] bcast_S4x1024_S4x1x1024_0_2
    (Host.reduceAdd (F := Ideal) (mulf B B) (constant S_ .f32 0x00000000#32) reducesTo_S4x1024x64_S4x1024_d2 h_S_)

/-- The first plane of the codes, what it leaves, the second plane, and what both leave. -/
def highOf (B : Vec Ideal S4x1024x64 .f32) : Vec Ideal S4x1024x64 .f32 :=
  extf .f32 (truncf (F := Ideal) .bf16 B bitsLt_bf16_f32) bitsLt_bf16_f32
@[inherit_doc highOf]
def restOf (B : Vec Ideal S4x1024x64 .f32) : Vec Ideal S4x1024x64 .f32 := subf (F := Ideal) (φ := .f32) B (highOf B)

/-- One plane, four codes to a line. -/
def foldOf (B : Vec Ideal S4x1024x64 .f32) : Vec Ideal S4x256x256 .bf16 :=
  shapeCast S4x256x256 (truncf (F := Ideal) .bf16 B bitsLt_bf16_f32) shapeCasts_S4x1024x64_S4x256x256

/-- Three planes, one under the other. -/
def stackPlanes (a b d : Vec Ideal S4x256x256 .bf16) : Vec Ideal S4x768x256 .bf16 :=
  concatenate S4x768x256 1 [⟨S4x256x256, a⟩, ⟨S4x256x256, b⟩, ⟨S4x256x256, d⟩] concatenates_S4x256x256_S4x256x256_S4x256x256_S4x768x256_d1
/-- The three planes of a code book. -/
def planesOf (B : Vec Ideal S4x1024x64 .f32) : Vec Ideal S4x768x256 .bf16 :=
  stackPlanes (foldOf (highOf B)) (foldOf (highOf (restOf B))) (foldOf (restOf (restOf B)))

variable (V : Valuation τ sig (Elt Ideal))

theorem host0_lengths : after hostOps0 V (Proc.devRef .tc main_call0_v18) = lengthsOf (V (Proc.devRef .tc main_arg0)) := by
  simp only [hostOps0, TRef.binary, TRef.nullary, TRef.unary, TRef.reshape, TRef.nary, TRef.toBuf, TRef.ofBuf, cast_eq]
  after_results_simp
  rfl
theorem host0_norms : after hostOps0 V (Proc.devRef .tc main_call0_v2) = normsOf (V (Proc.devRef .tc main_arg1)) := by
  simp only [hostOps0, TRef.binary, TRef.nullary, TRef.unary, TRef.reshape, TRef.nary, TRef.toBuf, TRef.ofBuf, cast_eq]
  after_results_simp
  rfl
theorem host0_planes : after hostOps0 V (Proc.devRef .tc main_call0_v15) = planesOf (V (Proc.devRef .tc main_arg1)) := by
  have e : (TRef.nary ![(.of main_call0_v12 : TRef sig ⟨S4x256x256, .bf16⟩), (.of main_call0_v13 : TRef sig ⟨S4x256x256, .bf16⟩), (.of main_call0_v14 : TRef sig ⟨S4x256x256, .bf16⟩)] (.of main_call0_v15 : TRef sig ⟨S4x768x256, .bf16⟩) (fun u => (concatenate S4x768x256 1 [⟨S4x256x256, (u 0 : (⟨S4x256x256, .bf16⟩ : BufTy).Contents (Elt Ideal))⟩, ⟨S4x256x256, (u 1 : (⟨S4x256x256, .bf16⟩ : BufTy).Contents (Elt Ideal))⟩, ⟨S4x256x256, (u 2 : (⟨S4x256x256, .bf16⟩ : BufTy).Contents (Elt Ideal))⟩] concatenates_S4x256x256_S4x256x256_S4x256x256_S4x768x256_d1 : (⟨S4x768x256, .bf16⟩ : BufTy).Contents (Elt Ideal))) : HloOp τ sig (Elt Ideal))
      = nary ![main_call0_v12, main_call0_v13, main_call0_v14] main_call0_v15 (fun u => stackPlanes (u 0) (u 1) (u 2)) := rfl
  simp only [hostOps0]
  rw [e]
  simp only [TRef.binary, TRef.nullary, TRef.unary, TRef.reshape, TRef.toBuf, TRef.ofBuf, cast_eq]
  after_results_simp
  rfl
theorem host1_lengths : after hostOps1 V (Proc.devRef .tc main_call0_v22) = lengthsOf (V (Proc.devRef .tc main_call0_v19_1)) := by
  simp only [hostOps1, TRef.binary, TRef.nullary, TRef.unary, TRef.toBuf, TRef.ofBuf, cast_eq]
  after_results_simp
  rfl
theorem host2_lengths : after hostOps2 V (Proc.devRef .tc main_call0_v26) = lengthsOf (V (Proc.devRef .tc main_call0_v23_1)) := by
  simp only [hostOps2, TRef.binary, TRef.nullary, TRef.unary, TRef.toBuf, TRef.ofBuf, cast_eq]
  after_results_simp
  rfl
theorem host3_lengths : after hostOps3 V (Proc.devRef .tc main_call0_v30) = lengthsOf (V (Proc.devRef .tc main_call0_v27_1)) := by
  simp only [hostOps3, TRef.binary, TRef.nullary, TRef.unary, TRef.toBuf, TRef.ofBuf, cast_eq]
  after_results_simp
  rfl

/-! ## At an index -/

theorem lengthsOf_at (A : Vec Ideal S16384x64 .f32) (n : Fin 16384) : lengthsOf A (ix2 n 0) = ∑ k, rowAt A n k * rowAt A n k := by
  pointwise [lengthsOf]
theorem normsOf_at (B : Vec Ideal S4x1024x64 .f32) (s : Fin 4) (k : Fin 1024) :
    normsOf B (ix3 s 0 k) = ∑ j, tblAt B s k j * tblAt B s k j := by
  pointwise [normsOf]
theorem highOf_eq (B : Vec Ideal S4x1024x64 .f32) : highOf B = B := rfl
theorem restOf_at (B : Vec Ideal S4x1024x64 .f32) (hB : ∀ i, B i ≠ ⊤ ∧ B i ≠ ⊥) : restOf B = fun _ => 0 := by
  funext i
  refine (show restOf B i = B i - B i from rfl).trans ?_
  exact EReal.sub_self (hB i).1 (hB i).2
theorem foldOf_at (B : Vec Ideal S4x1024x64 .f32) (s : Fin 4) (g : Fin 256) (h : Fin 4) (j : Fin 64) :
    foldOf B (ix3 s g ⟨64 * h.val + j.val, by omega⟩) = tblAt B s ⟨4 * g.val + h.val, by omega⟩ j := by
  pointwise [foldOf]
  have e : (⟨g.val * 4 + (64 * h.val + j.val) / 64, by omega⟩ : Fin 1024) = ⟨4 * g.val + h.val, by omega⟩ := Fin.ext (by dsimp only; omega)
  exact congrArg (fun q => B (ix3 s q j)) e
theorem foldOf_zero (s : Fin 4) (x : Fin 256) (y : Fin 256) : foldOf (fun _ => 0) (ix3 s x y) = 0 := rfl

theorem stackPlanes_low (a b d : Vec Ideal S4x256x256 .bf16) (s : Fin 4) (x : Fin 256) (y : Fin 256) :
    stackPlanes a b d (ix3 s ⟨x.val, by omega⟩ y) = a (ix3 s x y) := by
  pointwise [stackPlanes]
theorem stackPlanes_high (a : Vec Ideal S4x256x256 .bf16) (s : Fin 4) (x : Fin 768) (y : Fin 256) (h : 256 ≤ x.val) :
    stackPlanes a (fun _ => 0) (fun _ => 0) (ix3 s x y) = 0 := by
  pointwise [stackPlanes]
  rw [dif_neg (by omega)]
  split <;> rfl

/-- Of a finite code book the planes below the first are zero. -/
theorem planesOf_eq (B : Vec Ideal S4x1024x64 .f32) (hB : ∀ i, B i ≠ ⊤ ∧ B i ≠ ⊥) :
    planesOf B = stackPlanes (foldOf B) (fun _ => 0) (fun _ => 0) := by
  have r : restOf B = fun _ => 0 := restOf_at B hB
  have r' : restOf (fun _ => (0 : EReal)) = fun _ => 0 := restOf_at _ fun _ => ⟨EReal.zero_ne_top, EReal.zero_ne_bot⟩
  unfold planesOf
  rw [r, r', highOf_eq, highOf_eq]
  rfl

/-- What the host makes of any residual and of a finite code book is what a stage asks of its inputs. -/
theorem inputs_of (A : Vec Ideal S16384x64 .f32) (B : Vec Ideal S4x1024x64 .f32) (hB : ∀ i, B i ≠ ⊤ ∧ B i ≠ ⊥) :
    Inputs A (lengthsOf A) B (planesOf B) (normsOf B) where
  lengths := lengthsOf_at A
  norms := normsOf_at B
  codes s g h j := by
    rw [planesOf_eq B hB]
    exact (stackPlanes_low _ _ _ s g _).trans (foldOf_at B s g h j)
  zeros s x y hx := by
    rw [planesOf_eq B hB]
    exact stackPlanes_high _ s x y hx

end Cert.Rvq

end
-- ==== Proof.Arrays0.lean ====
module

public import proofs.«01_k».proof.Proof.Arrays

/-!
# The arrays after the first stage
-/

@[expose] public section

set_option Elab.async false
set_option maxRecDepth 16384

noncomputable section

namespace Cert.Rvq

open Cert.KernelIdeal Cert.KernelIdeal.Gen Idealize.ShloMosaic Idealize.ShloMosaic.TcCoe
open Idealize.ShloMosaic.Pipeline (Dat Cfg Window afterRegion)

variable (W : Dev nD → Valuation τ sig (Elt Ideal)) (c : Dev nD)

/-- Where the windows of this stage stand at each point. -/
theorem index0 : ∀ t : Fin cfg0.N, win0_0.index t = ![t.val, 0] ∧ win0_1.index t = ![t.val, 0] ∧ win0_2.index t = ![0, 0, 0]
    ∧ win0_3.index t = ![0, 0, 0] ∧ win0_4.index t = ![0, 0, 0] ∧ win0_5.index t = ![t.val, 0] ∧ win0_6.index t = ![t.val, 0] := by
  decide +kernel

/-- The stage's input arrays, as the host leaves them. -/
abbrev Inputs0 : Prop := Inputs (W c (Proc.devRef .tc main_arg0)) (W c (Proc.devRef .tc main_call0_v18)) (W c (Proc.devRef .tc main_arg1))
  (W c (Proc.devRef .tc main_call0_v15)) (W c (Proc.devRef .tc main_call0_v2))

theorem reads0 (t : Fin 8) : Reads (W c (Proc.devRef .tc main_arg0)) (W c (Proc.devRef .tc main_call0_v18)) (W c (Proc.devRef .tc main_arg1))
    (W c (Proc.devRef .tc main_call0_v15)) (W c (Proc.devRef .tc main_call0_v2)) 0 t
    (blockAt W c cfg0 0 t) (blockAt W c cfg0 1 t) (blockAt W c cfg0 2 t) (blockAt W c cfg0 3 t) (blockAt W c cfg0 4 t) := by
  constructor <;> intros <;> blk_ext [blockAt, index0 t, place]

/-- The places that the stage writes. -/
theorem places0 (H : Inputs0 W c) :
    (dat0 W c).arrAt 5 cfg0.N = placesArr (W c (Proc.devRef .tc main_arg0)) (W c (Proc.devRef .tc main_arg1)) 0 := by
  refine (dat0 W c).arrAt_eq_of_covers 5 _ (by decide +kernel) fun t hf y => ?_
  have e : ((((cfg0.win 5).blk t).view.emb y) (0 : Fin 2) : ℕ) = t.val * 2048 + (y (0 : Fin 2)).val := by
    refine ((cfg0.win 5).rect_emb_val t y (0 : Fin 2) rfl).trans ?_
    show win0_5.index t (0 : Fin 2) * 2048 + _ = _
    rw [(index0 t).2.2.2.2.2.1]; rfl
  rw [col_eq (t := t) (r := y (0 : Fin 2)) e, show (dat0 W c).after 5 t = k0_pay2 (blockAt W c cfg0 0 t) (blockAt W c cfg0 1 t) (blockAt W c cfg0 2 t) (blockAt W c cfg0 4 t) by dsimp only [dat0]]
  idx_vars y
  obtain rfl : y1 = 0 := Subsingleton.elim _ _
  have h := (reads0 W c t).place_eq H y0
  rw [show (cfg0.win 5).xinj (cfg0.grid.coords t) (ix2 y0 0) = ix2 y0 0 from rfl]
  refine Eq.trans (cast_eq _ _) ?_
  exact h

/-- The residual that the stage writes. -/
theorem next0 (H : Inputs0 W c) :
    (dat0 W c).arrAt 6 cfg0.N = nextArr (W c (Proc.devRef .tc main_arg0)) (W c (Proc.devRef .tc main_arg1)) 0 := by
  refine (dat0 W c).arrAt_eq_of_covers 6 _ (by decide +kernel) fun t hf y => ?_
  have e : ((((cfg0.win 6).blk t).view.emb y) (0 : Fin 2) : ℕ) = t.val * 2048 + (y (0 : Fin 2)).val := by
    refine ((cfg0.win 6).rect_emb_val t y (0 : Fin 2) rfl).trans ?_
    show win0_6.index t (0 : Fin 2) * 2048 + _ = _
    rw [(index0 t).2.2.2.2.2.2]; rfl
  have e' : ((((cfg0.win 6).blk t).view.emb y) (1 : Fin 2) : ℕ) = (y (1 : Fin 2)).val :=
    (cfg0.win 6).rect_emb_val_of_index_zero t (1 : Fin 2) (congrFun (index0 t).2.2.2.2.2.2 (1 : Fin 2)) y
  rw [row_eq (t := t) (r := y (0 : Fin 2)) (k := y (1 : Fin 2)) e e', show (dat0 W c).after 6 t = k0_new (blockAt W c cfg0 0 t) (blockAt W c cfg0 1 t) (blockAt W c cfg0 2 t) (blockAt W c cfg0 4 t) (blockAt W c cfg0 3 t) by dsimp only [dat0]]
  idx_vars y
  have h := (reads0 W c t).new_eq H y0 y1
  rw [show (cfg0.win 6).xinj (cfg0.grid.coords t) (ix2 y0 y1) = ix2 y0 y1 from rfl]
  refine Eq.trans (cast_eq _ _) ?_
  exact h

end Cert.Rvq

end
-- ==== Proof.Arrays1.lean ====
module

public import proofs.«01_k».proof.Proof.Arrays

/-!
# The arrays after the second stage
-/

@[expose] public section

set_option Elab.async false
set_option maxRecDepth 16384

noncomputable section

namespace Cert.Rvq

open Cert.KernelIdeal Cert.KernelIdeal.Gen Idealize.ShloMosaic Idealize.ShloMosaic.TcCoe
open Idealize.ShloMosaic.Pipeline (Dat Cfg Window afterRegion)

variable (W : Dev nD → Valuation τ sig (Elt Ideal)) (c : Dev nD)

/-- Where the windows of this stage stand at each point. -/
theorem index1 : ∀ t : Fin cfg1.N, win1_0.index t = ![t.val, 0] ∧ win1_1.index t = ![t.val, 0] ∧ win1_2.index t = ![1, 0, 0]
    ∧ win1_3.index t = ![1, 0, 0] ∧ win1_4.index t = ![1, 0, 0] ∧ win1_5.index t = ![t.val, 0] ∧ win1_6.index t = ![t.val, 0] := by
  decide +kernel

/-- The stage's input arrays, as the host leaves them. -/
abbrev Inputs1 : Prop := Inputs (W c (Proc.devRef .tc main_call0_v19_1)) (W c (Proc.devRef .tc main_call0_v22)) (W c (Proc.devRef .tc main_arg1))
  (W c (Proc.devRef .tc main_call0_v15)) (W c (Proc.devRef .tc main_call0_v2))

theorem reads1 (t : Fin 8) : Reads (W c (Proc.devRef .tc main_call0_v19_1)) (W c (Proc.devRef .tc main_call0_v22)) (W c (Proc.devRef .tc main_arg1))
    (W c (Proc.devRef .tc main_call0_v15)) (W c (Proc.devRef .tc main_call0_v2)) 1 t
    (blockAt W c cfg1 0 t) (blockAt W c cfg1 1 t) (blockAt W c cfg1 2 t) (blockAt W c cfg1 3 t) (blockAt W c cfg1 4 t) := by
  constructor <;> intros <;> blk_ext [blockAt, index1 t, place]

/-- The places that the stage writes. -/
theorem places1 (H : Inputs1 W c) :
    (dat1 W c).arrAt 5 cfg1.N = placesArr (W c (Proc.devRef .tc main_call0_v19_1)) (W c (Proc.devRef .tc main_arg1)) 1 := by
  refine (dat1 W c).arrAt_eq_of_covers 5 _ (by decide +kernel) fun t hf y => ?_
  have e : ((((cfg1.win 5).blk t).view.emb y) (0 : Fin 2) : ℕ) = t.val * 2048 + (y (0 : Fin 2)).val := by
    refine ((cfg1.win 5).rect_emb_val t y (0 : Fin 2) rfl).trans ?_
    show win1_5.index t (0 : Fin 2) * 2048 + _ = _
    rw [(index1 t).2.2.2.2.2.1]; rfl
  rw [col_eq (t := t) (r := y (0 : Fin 2)) e, show (dat1 W c).after 5 t = k1_pay3 (blockAt W c cfg1 0 t) (blockAt W c cfg1 1 t) (blockAt W c cfg1 2 t) (blockAt W c cfg1 4 t) by dsimp only [dat1]]
  idx_vars y
  obtain rfl : y1 = 0 := Subsingleton.elim _ _
  have h := (reads1 W c t).place_eq H y0
  rw [show (cfg1.win 5).xinj (cfg1.grid.coords t) (ix2 y0 0) = ix2 y0 0 from rfl]
  refine Eq.trans (cast_eq _ _) ?_
  rw [k1_pay3_eq]
  exact h

/-- The residual that the stage writes. -/
theorem next1 (H : Inputs1 W c) :
    (dat1 W c).arrAt 6 cfg1.N = nextArr (W c (Proc.devRef .tc main_call0_v19_1)) (W c (Proc.devRef .tc main_arg1)) 1 := by
  refine (dat1 W c).arrAt_eq_of_covers 6 _ (by decide +kernel) fun t hf y => ?_
  have e : ((((cfg1.win 6).blk t).view.emb y) (0 : Fin 2) : ℕ) = t.val * 2048 + (y (0 : Fin 2)).val := by
    refine ((cfg1.win 6).rect_emb_val t y (0 : Fin 2) rfl).trans ?_
    show win1_6.index t (0 : Fin 2) * 2048 + _ = _
    rw [(index1 t).2.2.2.2.2.2]; rfl
  have e' : ((((cfg1.win 6).blk t).view.emb y) (1 : Fin 2) : ℕ) = (y (1 : Fin 2)).val :=
    (cfg1.win 6).rect_emb_val_of_index_zero t (1 : Fin 2) (congrFun (index1 t).2.2.2.2.2.2 (1 : Fin 2)) y
  rw [row_eq (t := t) (r := y (0 : Fin 2)) (k := y (1 : Fin 2)) e e', show (dat1 W c).after 6 t = k1_new (blockAt W c cfg1 0 t) (blockAt W c cfg1 1 t) (blockAt W c cfg1 2 t) (blockAt W c cfg1 4 t) (blockAt W c cfg1 3 t) by dsimp only [dat1]]
  idx_vars y
  have h := (reads1 W c t).new_eq H y0 y1
  rw [show (cfg1.win 6).xinj (cfg1.grid.coords t) (ix2 y0 y1) = ix2 y0 y1 from rfl]
  refine Eq.trans (cast_eq _ _) ?_
  rw [k1_new_eq]
  exact h

end Cert.Rvq

end
-- ==== Proof.Arrays2.lean ====
module

public import proofs.«01_k».proof.Proof.Arrays

/-!
# The arrays after the third stage
-/

@[expose] public section

set_option Elab.async false
set_option maxRecDepth 16384

noncomputable section

namespace Cert.Rvq

open Cert.KernelIdeal Cert.KernelIdeal.Gen Idealize.ShloMosaic Idealize.ShloMosaic.TcCoe
open Idealize.ShloMosaic.Pipeline (Dat Cfg Window afterRegion)

variable (W : Dev nD → Valuation τ sig (Elt Ideal)) (c : Dev nD)

/-- Where the windows of this stage stand at each point. -/
theorem index2 : ∀ t : Fin cfg2.N, win2_0.index t = ![t.val, 0] ∧ win2_1.index t = ![t.val, 0] ∧ win2_2.index t = ![2, 0, 0]
    ∧ win2_3.index t = ![2, 0, 0] ∧ win2_4.index t = ![2, 0, 0] ∧ win2_5.index t = ![t.val, 0] ∧ win2_6.index t = ![t.val, 0] := by
  decide +kernel

/-- The stage's input arrays, as the host leaves them. -/
abbrev Inputs2 : Prop := Inputs (W c (Proc.devRef .tc main_call0_v23_1)) (W c (Proc.devRef .tc main_call0_v26)) (W c (Proc.devRef .tc main_arg1))
  (W c (Proc.devRef .tc main_call0_v15)) (W c (Proc.devRef .tc main_call0_v2))

theorem reads2 (t : Fin 8) : Reads (W c (Proc.devRef .tc main_call0_v23_1)) (W c (Proc.devRef .tc main_call0_v26)) (W c (Proc.devRef .tc main_arg1))
    (W c (Proc.devRef .tc main_call0_v15)) (W c (Proc.devRef .tc main_call0_v2)) 2 t
    (blockAt W c cfg2 0 t) (blockAt W c cfg2 1 t) (blockAt W c cfg2 2 t) (blockAt W c cfg2 3 t) (blockAt W c cfg2 4 t) := by
  constructor <;> intros <;> blk_ext [blockAt, index2 t, place]

/-- The places that the stage writes. -/
theorem places2 (H : Inputs2 W c) :
    (dat2 W c).arrAt 5 cfg2.N = placesArr (W c (Proc.devRef .tc main_call0_v23_1)) (W c (Proc.devRef .tc main_arg1)) 2 := by
  refine (dat2 W c).arrAt_eq_of_covers 5 _ (by decide +kernel) fun t hf y => ?_
  have e : ((((cfg2.win 5).blk t).view.emb y) (0 : Fin 2) : ℕ) = t.val * 2048 + (y (0 : Fin 2)).val := by
    refine ((cfg2.win 5).rect_emb_val t y (0 : Fin 2) rfl).trans ?_
    show win2_5.index t (0 : Fin 2) * 2048 + _ = _
    rw [(index2 t).2.2.2.2.2.1]; rfl
  rw [col_eq (t := t) (r := y (0 : Fin 2)) e, show (dat2 W c).after 5 t = k2_pay3 (blockAt W c cfg2 0 t) (blockAt W c cfg2 1 t) (blockAt W c cfg2 2 t) (blockAt W c cfg2 4 t) by dsimp only [dat2]]
  idx_vars y
  obtain rfl : y1 = 0 := Subsingleton.elim _ _
  have h := (reads2 W c t).place_eq H y0
  rw [show (cfg2.win 5).xinj (cfg2.grid.coords t) (ix2 y0 0) = ix2 y0 0 from rfl]
  refine Eq.trans (cast_eq _ _) ?_
  rw [k2_pay3_eq]
  exact h

/-- The residual that the stage writes. -/
theorem next2 (H : Inputs2 W c) :
    (dat2 W c).arrAt 6 cfg2.N = nextArr (W c (Proc.devRef .tc main_call0_v23_1)) (W c (Proc.devRef .tc main_arg1)) 2 := by
  refine (dat2 W c).arrAt_eq_of_covers 6 _ (by decide +kernel) fun t hf y => ?_
  have e : ((((cfg2.win 6).blk t).view.emb y) (0 : Fin 2) : ℕ) = t.val * 2048 + (y (0 : Fin 2)).val := by
    refine ((cfg2.win 6).rect_emb_val t y (0 : Fin 2) rfl).trans ?_
    show win2_6.index t (0 : Fin 2) * 2048 + _ = _
    rw [(index2 t).2.2.2.2.2.2]; rfl
  have e' : ((((cfg2.win 6).blk t).view.emb y) (1 : Fin 2) : ℕ) = (y (1 : Fin 2)).val :=
    (cfg2.win 6).rect_emb_val_of_index_zero t (1 : Fin 2) (congrFun (index2 t).2.2.2.2.2.2 (1 : Fin 2)) y
  rw [row_eq (t := t) (r := y (0 : Fin 2)) (k := y (1 : Fin 2)) e e', show (dat2 W c).after 6 t = k2_new (blockAt W c cfg2 0 t) (blockAt W c cfg2 1 t) (blockAt W c cfg2 2 t) (blockAt W c cfg2 4 t) (blockAt W c cfg2 3 t) by dsimp only [dat2]]
  idx_vars y
  have h := (reads2 W c t).new_eq H y0 y1
  rw [show (cfg2.win 6).xinj (cfg2.grid.coords t) (ix2 y0 y1) = ix2 y0 y1 from rfl]
  refine Eq.trans (cast_eq _ _) ?_
  rw [k2_new_eq]
  exact h

end Cert.Rvq

end
-- ==== Proof.Arrays3.lean ====
module

public import proofs.«01_k».proof.Proof.Arrays

/-!
# The arrays after the last stage
-/

@[expose] public section

set_option Elab.async false
set_option maxRecDepth 16384

noncomputable section

namespace Cert.Rvq

open Cert.KernelIdeal Cert.KernelIdeal.Gen Idealize.ShloMosaic Idealize.ShloMosaic.TcCoe
open Idealize.ShloMosaic.Pipeline (Dat Cfg Window afterRegion)

variable (W : Dev nD → Valuation τ sig (Elt Ideal)) (c : Dev nD)

/-- Where the windows of this stage stand at each point. -/
theorem index3 : ∀ t : Fin cfg3.N, win3_0.index t = ![t.val, 0] ∧ win3_1.index t = ![t.val, 0] ∧ win3_2.index t = ![3, 0, 0]
    ∧ win3_3.index t = ![3, 0, 0] ∧ win3_4.index t = ![3, 0, 0] ∧ win3_5.index t = ![t.val, 0] ∧ win3_6.index t = ![t.val, 0] ∧ win3_7.index t = ![t.val, 0] := by
  decide +kernel

/-- The stage's input arrays, as the host leaves them. -/
abbrev Inputs3 : Prop := Inputs (W c (Proc.devRef .tc main_call0_v27_1)) (W c (Proc.devRef .tc main_call0_v30)) (W c (Proc.devRef .tc main_arg1))
  (W c (Proc.devRef .tc main_call0_v15)) (W c (Proc.devRef .tc main_call0_v2))

theorem reads3 (t : Fin 8) : Reads (W c (Proc.devRef .tc main_call0_v27_1)) (W c (Proc.devRef .tc main_call0_v30)) (W c (Proc.devRef .tc main_arg1))
    (W c (Proc.devRef .tc main_call0_v15)) (W c (Proc.devRef .tc main_call0_v2)) 3 t
    (blockAt W c cfg3 0 t) (blockAt W c cfg3 1 t) (blockAt W c cfg3 2 t) (blockAt W c cfg3 3 t) (blockAt W c cfg3 4 t) := by
  constructor <;> intros <;> blk_ext [blockAt, index3 t, place]

/-- The places that the stage writes. -/
theorem places3 (H : Inputs3 W c) :
    (dat3 W c).arrAt 6 cfg3.N = placesArr (W c (Proc.devRef .tc main_call0_v27_1)) (W c (Proc.devRef .tc main_arg1)) 3 := by
  refine (dat3 W c).arrAt_eq_of_covers 6 _ (by decide +kernel) fun t hf y => ?_
  have e : ((((cfg3.win 6).blk t).view.emb y) (0 : Fin 2) : ℕ) = t.val * 2048 + (y (0 : Fin 2)).val := by
    refine ((cfg3.win 6).rect_emb_val t y (0 : Fin 2) rfl).trans ?_
    show win3_6.index t (0 : Fin 2) * 2048 + _ = _
    rw [(index3 t).2.2.2.2.2.2.1]; rfl
  rw [col_eq (t := t) (r := y (0 : Fin 2)) e, show (dat3 W c).after 6 t = k3_pay4 (blockAt W c cfg3 0 t) (blockAt W c cfg3 1 t) (blockAt W c cfg3 2 t) (blockAt W c cfg3 4 t) by dsimp only [dat3]]
  idx_vars y
  obtain rfl : y1 = 0 := Subsingleton.elim _ _
  have h := (reads3 W c t).place_eq H y0
  rw [show (cfg3.win 6).xinj (cfg3.grid.coords t) (ix2 y0 0) = ix2 y0 0 from rfl]
  refine Eq.trans (cast_eq _ _) ?_
  rw [k3_pay4_eq]
  exact h

/-- The block of the rows as launched. -/
theorem reads3_z (t : Fin 8) (r : Fin 2048) (k : Fin 64) :
    blockAt W c cfg3 5 t (ix2 r k) = W c (Proc.devRef .tc main_arg0) (ix2 (place t r) k) := by
  blk_ext [blockAt, index3 t, place]

/-- The quantised rows that the stage writes. -/
theorem through3 (H : Inputs3 W c) :
    (dat3 W c).arrAt 7 cfg3.N = throughArr (W c (Proc.devRef .tc main_arg0)) (W c (Proc.devRef .tc main_call0_v27_1)) (W c (Proc.devRef .tc main_arg1)) 3 := by
  refine (dat3 W c).arrAt_eq_of_covers 7 _ (by decide +kernel) fun t hf y => ?_
  have e : ((((cfg3.win 7).blk t).view.emb y) (0 : Fin 2) : ℕ) = t.val * 2048 + (y (0 : Fin 2)).val := by
    refine ((cfg3.win 7).rect_emb_val t y (0 : Fin 2) rfl).trans ?_
    show win3_7.index t (0 : Fin 2) * 2048 + _ = _
    rw [(index3 t).2.2.2.2.2.2.2]; rfl
  have e' : ((((cfg3.win 7).blk t).view.emb y) (1 : Fin 2) : ℕ) = (y (1 : Fin 2)).val :=
    (cfg3.win 7).rect_emb_val_of_index_zero t (1 : Fin 2) (congrFun (index3 t).2.2.2.2.2.2.2 (1 : Fin 2)) y
  rw [row_eq (t := t) (r := y (0 : Fin 2)) (k := y (1 : Fin 2)) e e', show (dat3 W c).after 7 t = k3_out (blockAt W c cfg3 0 t) (blockAt W c cfg3 1 t) (blockAt W c cfg3 2 t) (blockAt W c cfg3 4 t) (blockAt W c cfg3 3 t) (blockAt W c cfg3 5 t) by dsimp only [dat3]]
  idx_vars y
  have R := reads3 W c t
  have h := out_at (blockAt W c cfg3 0 t) (blockAt W c cfg3 1 t) (blockAt W c cfg3 2 t) (blockAt W c cfg3 4 t) (blockAt W c cfg3 3 t) y0
    (blockAt W c cfg3 5 t) (R.lengths H y0) (R.norms H) (R.holds H) y1
  rw [R.row, R.tbl, reads3_z W c t y0 y1] at h
  rw [show (cfg3.win 7).xinj (cfg3.grid.coords t) (ix2 y0 y1) = ix2 y0 y1 from rfl]
  refine Eq.trans (cast_eq _ _) ?_
  exact h

/-- One block's share of the sum of squares. -/
def blockLoss (t : Fin 8) : EReal :=
  ∑ r : Fin 2048, rowLoss (rowAt (W c (Proc.devRef .tc main_arg0)) (place t r))
    (Spec.next (rowAt (W c (Proc.devRef .tc main_call0_v27_1)) (place t r)) (tblAt (W c (Proc.devRef .tc main_arg1)) 3))

theorem part3 (H : Inputs3 W c) (t : Fin 8) : partAt W c t (ix2 0 0) = blockLoss W c t := by
  have R := reads3 W c t
  have h := part_at (blockAt W c cfg3 0 t) (blockAt W c cfg3 1 t) (blockAt W c cfg3 2 t) (blockAt W c cfg3 4 t) (blockAt W c cfg3 3 t)
    (blockAt W c cfg3 5 t) (fun r => R.lengths H r) (R.norms H) (R.holds H)
  refine (show partAt W c t (ix2 0 0) = _ from h).trans ?_
  refine Finset.sum_congr rfl fun r _ => Finset.sum_congr rfl fun k _ => ?_
  rw [R.row, R.tbl, reads3_z W c t r k]

/-- The cell after the last point: the eight blocks' sums, scaled. -/
theorem cell3 (H : Inputs3 W c) : cellAfter W c 7 (ix2 0 0) = (∑ t, blockLoss W c t) * Ideal.ofBits .f32 0x35800000#32 := by
  have p : ∀ n, n < 8 → ∀ h : n < 8, partAt W c (pointAt n) (ix2 0 0) = blockLoss W c ⟨n, h⟩ := fun n hn h => by
    rw [← part3 W c H]
    exact congrArg (fun t => partAt W c t (ix2 0 0)) (Fin.ext (Nat.mod_eq_of_lt hn))
  have s : ∀ n, n < 7 → cellAfter W c n (ix2 0 0) = ∑ t : Fin (n + 1), blockLoss W c ⟨t.val % 8, Nat.mod_lt _ (by decide)⟩ := by
    intro n
    induction n with
    | zero => intro _; rw [cellAfter, p 0 (by omega) (by omega)]; simp
    | succ n ih =>
      intro hn
      rw [cellAfter, if_neg (by omega), pay1_at, ih (by omega), p (n + 1) (by omega) (by omega), Fin.sum_univ_castSucc (n := n + 1)]
      refine congrArg₂ (· + ·) rfl (congrArg (blockLoss W c) (Fin.ext ?_))
      exact (Nat.mod_eq_of_lt (by omega : n + 1 < 8)).symm
  rw [cellAfter, if_pos rfl, pay2_at, s 6 (by omega), p (6 + 1) (by omega) (by omega), Fin.sum_univ_castSucc (n := 7) (f := blockLoss W c)]
  refine congrArg (· * _) (congrArg₂ (· + ·) (Finset.sum_congr rfl fun t _ => congrArg (blockLoss W c) (Fin.ext ?_)) rfl)
  exact Nat.mod_eq_of_lt (by omega)

/-- The loss that the stage writes. -/
theorem loss3 (H : Inputs3 W c) :
    (dat3 W c).arrAt 8 cfg3.N = fun _ => (∑ t, blockLoss W c t) * Ideal.ofBits .f32 0x35800000#32 := by
  refine (dat3 W c).arrAt_eq_of_after_last 8 ⟨7, lt_of_lt_of_eq (by decide) N_3.symm⟩ (by decide +kernel) _ fun j => ?_
  refine Eq.trans (cast_eq _ _) ?_
  rw [after3_8, ← cell3 W c H]
  refine congrArg (cellAfter W c 7) (funext fun a => ?_)
  match a with
  | ⟨0, _⟩ => exact Subsingleton.elim (α := Fin 1) _ _
  | ⟨1, _⟩ => exact Subsingleton.elim (α := Fin 1) _ _

end Cert.Rvq

end
-- ==== Proof.KernelValue.lean ====
module

public import proofs.«01_k».proof.Proof.HostValues
public import proofs.«01_k».proof.Proof.Arrays0
public import proofs.«01_k».proof.Proof.Arrays1
public import proofs.«01_k».proof.Proof.Arrays2
public import proofs.«01_k».proof.Proof.Arrays3
public import proofs.«01_k».proof.Proof.Kept

/-!
# What the kernel's results hold

The four stages one after the other over the buffers between them, and the last host line: the three results as terms of the two
arguments, of a finite code book.
-/

@[expose] public section

set_option Elab.async false
set_option maxRecDepth 16384

noncomputable section

namespace Cert.Rvq

open Cert.KernelIdeal Cert.KernelIdeal.Gen Idealize.ShloMosaic Idealize.ShloMosaic.TcCoe Idealize.ShloMosaic.StableHlo
open Idealize.ShloMosaic.Pipeline (afterRegion)

/-- The residual before the second, the third and the last stage. -/
def left1 (Z : Vec Ideal S16384x64 .f32) (B : Vec Ideal S4x1024x64 .f32) : Vec Ideal S16384x64 .f32 := nextArr Z B 0
@[inherit_doc left1]
def left2 (Z : Vec Ideal S16384x64 .f32) (B : Vec Ideal S4x1024x64 .f32) : Vec Ideal S16384x64 .f32 := nextArr (left1 Z B) B 1
@[inherit_doc left1]
def left3 (Z : Vec Ideal S16384x64 .f32) (B : Vec Ideal S4x1024x64 .f32) : Vec Ideal S16384x64 .f32 := nextArr (left2 Z B) B 2

/-- Four columns of places, side by side. -/
def besides (a b d e : Vec Ideal S16384x1 .i32) : Vec Ideal S16384x4 .i32 :=
  concatenate S16384x4 1 [⟨S16384x1, a⟩, ⟨S16384x1, b⟩, ⟨S16384x1, d⟩, ⟨S16384x1, e⟩] concatenates_S16384x1_S16384x1_S16384x1_S16384x1_S16384x4_d1

section Last

variable (V : Valuation τ sig (Elt Ideal))

theorem host4_places : after hostOps4 V (Proc.devRef .tc main_v0_1)
    = besides (V (Proc.devRef .tc main_call0_v19_0)) (V (Proc.devRef .tc main_call0_v23_0)) (V (Proc.devRef .tc main_call0_v27_0))
      (V (Proc.devRef .tc main_call0_v31_0)) := by
  have e : (TRef.nary ![(.of main_call0_v19_0 : TRef sig ⟨S16384x1, .i32⟩), (.of main_call0_v23_0 : TRef sig ⟨S16384x1, .i32⟩), (.of main_call0_v27_0 : TRef sig ⟨S16384x1, .i32⟩), (.of main_call0_v31_0 : TRef sig ⟨S16384x1, .i32⟩)] (.of main_v0_1 : TRef sig ⟨S16384x4, .i32⟩) (fun u => (concatenate S16384x4 1 [⟨S16384x1, (u 0 : (⟨S16384x1, .i32⟩ : BufTy).Contents (Elt Ideal))⟩, ⟨S16384x1, (u 1 : (⟨S16384x1, .i32⟩ : BufTy).Contents (Elt Ideal))⟩, ⟨S16384x1, (u 2 : (⟨S16384x1, .i32⟩ : BufTy).Contents (Elt Ideal))⟩, ⟨S16384x1, (u 3 : (⟨S16384x1, .i32⟩ : BufTy).Contents (Elt Ideal))⟩] concatenates_S16384x1_S16384x1_S16384x1_S16384x1_S16384x4_d1 : (⟨S16384x4, .i32⟩ : BufTy).Contents (Elt Ideal))) : HloOp τ sig (Elt Ideal))
      = nary ![main_call0_v19_0, main_call0_v23_0, main_call0_v27_0, main_call0_v31_0] main_v0_1 (fun u => besides (u 0) (u 1) (u 2) (u 3)) := rfl
  simp only [hostOps4]
  rw [e]
  simp only [TRef.reshape, TRef.toBuf, TRef.ofBuf, cast_eq]
  after_results_simp
  rfl
theorem host4_loss : after hostOps4 V (Proc.devRef .tc main_v0_2)
    = shapeCast S_ (V (Proc.devRef .tc main_call0_v31_2)) shapeCasts_S1x1_S_ := by
  simp only [hostOps4, TRef.nary, TRef.reshape, TRef.toBuf, TRef.ofBuf, cast_eq]
  after_results_simp
  rfl

end Last

variable (m : (ℓ : Loc nD τ sig) → Buf (Elt Ideal) ℓ) (c : Dev nD)

/-- The two arguments. -/
abbrev argZ : Vec Ideal S16384x64 .f32 := V0 m c (Proc.devRef .tc main_arg0)
@[inherit_doc argZ]
abbrev argB : Vec Ideal S4x1024x64 .f32 := V0 m c (Proc.devRef .tc main_arg1)

/-! ## The code book, its planes and its codes' lengths at every stage -/

theorem book0 : entry0 m c (Proc.devRef .tc main_arg1) = argB m c := entry0_keeps m c _ (by decide)
theorem book1 : entry1 m c (Proc.devRef .tc main_arg1) = argB m c := (entry1_shared m c _ (by decide) (by decide)).trans (book0 m c)
theorem book2 : entry2 m c (Proc.devRef .tc main_arg1) = argB m c := (entry2_shared m c _ (by decide) (by decide)).trans (book1 m c)
theorem book3 : entry3 m c (Proc.devRef .tc main_arg1) = argB m c := (entry3_shared m c _ (by decide) (by decide)).trans (book2 m c)
theorem planes0 : entry0 m c (Proc.devRef .tc main_call0_v15) = planesOf (argB m c) := host0_planes _
theorem planes1 : entry1 m c (Proc.devRef .tc main_call0_v15) = planesOf (argB m c) := (entry1_shared m c _ (by decide) (by decide)).trans (planes0 m c)
theorem planes2 : entry2 m c (Proc.devRef .tc main_call0_v15) = planesOf (argB m c) := (entry2_shared m c _ (by decide) (by decide)).trans (planes1 m c)
theorem planes3 : entry3 m c (Proc.devRef .tc main_call0_v15) = planesOf (argB m c) := (entry3_shared m c _ (by decide) (by decide)).trans (planes2 m c)
theorem norms0 : entry0 m c (Proc.devRef .tc main_call0_v2) = normsOf (argB m c) := host0_norms _
theorem norms1 : entry1 m c (Proc.devRef .tc main_call0_v2) = normsOf (argB m c) := (entry1_shared m c _ (by decide) (by decide)).trans (norms0 m c)
theorem norms2 : entry2 m c (Proc.devRef .tc main_call0_v2) = normsOf (argB m c) := (entry2_shared m c _ (by decide) (by decide)).trans (norms1 m c)
theorem norms3 : entry3 m c (Proc.devRef .tc main_call0_v2) = normsOf (argB m c) := (entry3_shared m c _ (by decide) (by decide)).trans (norms2 m c)

/-! ## Stage by stage -/

variable (hB : ∀ i, argB m c i ≠ ⊤ ∧ argB m c i ≠ ⊥)
include hB

theorem inputs0 : Inputs0 (entry0 m) c := by
  have h := inputs_of (argZ m c) (argB m c) hB
  unfold Inputs0
  rw [entry0_arg0, book0, planes0, norms0, show entry0 m c (Proc.devRef .tc main_call0_v18) = lengthsOf (argZ m c) from host0_lengths _]
  exact h
theorem exit0_places : exit0 m c (Proc.devRef .tc main_call0_v19_0) = placesArr (argZ m c) (argB m c) 0 := by
  have h := (Pipeline.afterRegion_arr (dat0 (entry0 m) c) (entry0 m c) winFacts0.arr_inj 5).trans (places0 (entry0 m) c (inputs0 m c hB))
  rw [entry0_arg0, book0] at h
  exact h
theorem exit0_left : exit0 m c (Proc.devRef .tc main_call0_v19_1) = left1 (argZ m c) (argB m c) := by
  have h := (Pipeline.afterRegion_arr (dat0 (entry0 m) c) (entry0 m c) winFacts0.arr_inj 6).trans (next0 (entry0 m) c (inputs0 m c hB))
  rw [entry0_arg0, book0] at h
  exact h
theorem entry1_left : entry1 m c (Proc.devRef .tc main_call0_v19_1) = left1 (argZ m c) (argB m c) :=
  (entry1_keeps m c _ (by decide)).trans (exit0_left m c hB)

theorem inputs1 : Inputs1 (entry1 m) c := by
  have h := inputs_of (left1 (argZ m c) (argB m c)) (argB m c) hB
  have l : entry1 m c (Proc.devRef .tc main_call0_v22) = lengthsOf (left1 (argZ m c) (argB m c)) :=
    (host1_lengths _).trans (congrArg lengthsOf (exit0_left m c hB))
  unfold Inputs1
  rw [entry1_left m c hB, book1, planes1, norms1, l]
  exact h
theorem exit1_places : exit1 m c (Proc.devRef .tc main_call0_v23_0) = placesArr (left1 (argZ m c) (argB m c)) (argB m c) 1 := by
  have h := (Pipeline.afterRegion_arr (dat1 (entry1 m) c) (entry1 m c) winFacts1.arr_inj 5).trans (places1 (entry1 m) c (inputs1 m c hB))
  rw [entry1_left m c hB, book1] at h
  exact h
theorem exit1_left : exit1 m c (Proc.devRef .tc main_call0_v23_1) = left2 (argZ m c) (argB m c) := by
  have h := (Pipeline.afterRegion_arr (dat1 (entry1 m) c) (entry1 m c) winFacts1.arr_inj 6).trans (next1 (entry1 m) c (inputs1 m c hB))
  rw [entry1_left m c hB, book1] at h
  exact h
theorem entry2_left : entry2 m c (Proc.devRef .tc main_call0_v23_1) = left2 (argZ m c) (argB m c) :=
  (entry2_keeps m c _ (by decide)).trans (exit1_left m c hB)

theorem inputs2 : Inputs2 (entry2 m) c := by
  have h := inputs_of (left2 (argZ m c) (argB m c)) (argB m c) hB
  have l : entry2 m c (Proc.devRef .tc main_call0_v26) = lengthsOf (left2 (argZ m c) (argB m c)) :=
    (host2_lengths _).trans (congrArg lengthsOf (exit1_left m c hB))
  unfold Inputs2
  rw [entry2_left m c hB, book2, planes2, norms2, l]
  exact h
theorem exit2_places : exit2 m c (Proc.devRef .tc main_call0_v27_0) = placesArr (left2 (argZ m c) (argB m c)) (argB m c) 2 := by
  have h := (Pipeline.afterRegion_arr (dat2 (entry2 m) c) (entry2 m c) winFacts2.arr_inj 5).trans (places2 (entry2 m) c (inputs2 m c hB))
  rw [entry2_left m c hB, book2] at h
  exact h
theorem exit2_left : exit2 m c (Proc.devRef .tc main_call0_v27_1) = left3 (argZ m c) (argB m c) := by
  have h := (Pipeline.afterRegion_arr (dat2 (entry2 m) c) (entry2 m c) winFacts2.arr_inj 6).trans (next2 (entry2 m) c (inputs2 m c hB))
  rw [entry2_left m c hB, book2] at h
  exact h
theorem entry3_left : entry3 m c (Proc.devRef .tc main_call0_v27_1) = left3 (argZ m c) (argB m c) :=
  (entry3_keeps m c _ (by decide)).trans (exit2_left m c hB)

theorem inputs3 : Inputs3 (entry3 m) c := by
  have h := inputs_of (left3 (argZ m c) (argB m c)) (argB m c) hB
  have l : entry3 m c (Proc.devRef .tc main_call0_v30) = lengthsOf (left3 (argZ m c) (argB m c)) :=
    (host3_lengths _).trans (congrArg lengthsOf (exit2_left m c hB))
  unfold Inputs3
  rw [entry3_left m c hB, book3, planes3, norms3, l]
  exact h
theorem exit3_places : exit3 m c (Proc.devRef .tc main_call0_v31_0) = placesArr (left3 (argZ m c) (argB m c)) (argB m c) 3 := by
  have h := (Pipeline.afterRegion_arr (dat3 (entry3 m) c) (entry3 m c) winFacts3.arr_inj 6).trans (places3 (entry3 m) c (inputs3 m c hB))
  rw [entry3_left m c hB, book3] at h
  exact h

/-! ## The results -/

/-- The first result: the quantised rows. -/
theorem final_rows : final m c (Proc.devRef .tc main_v0_0) = throughArr (argZ m c) (left3 (argZ m c) (argB m c)) (argB m c) 3 := by
  have h := (Pipeline.afterRegion_arr (dat3 (entry3 m) c) (entry3 m c) winFacts3.arr_inj 7).trans (through3 (entry3 m) c (inputs3 m c hB))
  rw [entry3_left m c hB, book3, entry3_arg0] at h
  exact (final_keeps m c _ (by decide)).trans h

/-- The second: the places of the four stages. -/
theorem final_places : final m c (Proc.devRef .tc main_v0_1)
    = besides (placesArr (argZ m c) (argB m c) 0) (placesArr (left1 (argZ m c) (argB m c)) (argB m c) 1)
      (placesArr (left2 (argZ m c) (argB m c)) (argB m c) 2) (placesArr (left3 (argZ m c) (argB m c)) (argB m c) 3) := by
  have h2 : exit3 m c (Proc.devRef .tc main_call0_v27_0) = placesArr (left2 (argZ m c) (argB m c)) (argB m c) 2 :=
    (exit3_keeps m c _ (by decide)).trans <| (entry3_keeps m c _ (by decide)).trans (exit2_places m c hB)
  have h1 : exit3 m c (Proc.devRef .tc main_call0_v23_0) = placesArr (left1 (argZ m c) (argB m c)) (argB m c) 1 :=
    (exit3_keeps m c _ (by decide)).trans <| (entry3_keeps m c _ (by decide)).trans <| (exit2_keeps m c _ (by decide)).trans <|
      (entry2_keeps m c _ (by decide)).trans (exit1_places m c hB)
  have h0 : exit3 m c (Proc.devRef .tc main_call0_v19_0) = placesArr (argZ m c) (argB m c) 0 :=
    (exit3_keeps m c _ (by decide)).trans <| (entry3_keeps m c _ (by decide)).trans <| (exit2_keeps m c _ (by decide)).trans <|
      (entry2_keeps m c _ (by decide)).trans <| (exit1_keeps m c _ (by decide)).trans <| (entry1_keeps m c _ (by decide)).trans (exit0_places m c hB)
  refine (host4_places (exit3 m c)).trans ?_
  rw [h0, h1, h2, exit3_places m c hB]

/-- The third: the loss. -/
theorem final_loss : final m c (Proc.devRef .tc main_v0_2)
    = fun _ => (∑ t : Fin 8, ∑ r : Fin 2048, rowLoss (rowAt (argZ m c) (place t r))
        (Spec.next (rowAt (left3 (argZ m c) (argB m c)) (place t r)) (tblAt (argB m c) 3))) * Ideal.ofBits .f32 0x35800000#32 := by
  have h := (Pipeline.afterRegion_arr (dat3 (entry3 m) c) (entry3 m c) winFacts3.arr_inj 8).trans (loss3 (entry3 m) c (inputs3 m c hB))
  have h' : exit3 m c (Proc.devRef .tc main_call0_v31_2) = fun _ => (∑ t, blockLoss (entry3 m) c t) * Ideal.ofBits .f32 0x35800000#32 := h
  refine (host4_loss (exit3 m c)).trans ?_
  rw [h']
  unfold blockLoss
  rw [entry3_left m c hB, book3, entry3_arg0]
  rfl

end Cert.Rvq

end
-- ==== Proof.Match.lean ====
module

public import proofs.«01_k».proof.Proof.RefTake
public import proofs.«01_k».proof.Proof.KernelValue

/-!
# The two programs' results are the same terms

Of finite arguments: stage by stage the reference leaves what the kernel leaves and finds the same places; the sum of the four
codes is the row less what the last stage leaves; so the three results agree.
-/

@[expose] public section

set_option Elab.async false
set_option maxRecDepth 16384

noncomputable section

namespace Cert.Match

open Cert.KernelIdeal Cert.KernelIdeal.Gen Idealize.ShloMosaic Idealize.ShloMosaic.TcCoe
open Cert.RefRun (Rows Book Table codesAt taken left choose res1 res2 res3 table0 table1 table2 table3)
open Cert.Rvq (rowAt tblAt nextArr placesArr left1 left2 left3 throughArr besides place rowLoss)

/-- Neither infinity. -/
abbrev Finite (x : EReal) : Prop := x ≠ ⊤ ∧ x ≠ ⊥

/-- A finite value less a finite value is finite. -/
theorem Finite.sub {x y : EReal} (hx : Finite x) (hy : Finite y) : Finite (x - y) := by
  obtain ⟨hx, hx'⟩ := hx
  obtain ⟨hy, hy'⟩ := hy
  lift x to ℝ using ⟨hx, hx'⟩
  lift y to ℝ using ⟨hy, hy'⟩
  rw [← EReal.coe_sub]
  exact ⟨EReal.coe_ne_top _, EReal.coe_ne_bot _⟩

/-- What four subtractions took off a finite value is the sum of what they subtracted. -/
theorem four_off {z a b d e : EReal} (hz : Finite z) (ha : Finite a) (hb : Finite b) (hd : Finite d) (he : Finite e) :
    z - ((((z - a) - b) - d) - e) = a + b + d + e := by
  lift z to ℝ using hz
  lift a to ℝ using ha
  lift b to ℝ using hb
  lift d to ℝ using hd
  lift e to ℝ using he
  norm_cast
  ring

/-- Division by the number of elements is the product with its reciprocal. -/
theorem mean_eq (x : EReal) : Ideal.div x (Ideal.ofBits .f32 0x49800000#32) = x * Ideal.ofBits .f32 0x35800000#32 := by
  have h1 : Ideal.ofBits .f32 0x49800000#32 = ((1048576 : ℝ) : EReal) := by
    simp [Ideal.ofBits, Ideal.ieee]
    rw [← EReal.coe_mul]
    norm_num
  have h2 : Ideal.ofBits .f32 0x35800000#32 = ((1 / 1048576 : ℝ) : EReal) := by
    simp [Ideal.ofBits, Ideal.ieee]
    rw [← EReal.coe_mul]
    norm_num
  rw [h1, h2, Ideal.div_coe (by norm_num)]

/-- A sum over the rows block by block. -/
theorem sum_places (f : Fin 16384 → EReal) : ∑ t : Fin 8, ∑ r : Fin 2048, f (place t r) = ∑ n, f n :=
  Fin.sum_mul_add_fin 8 2048 f

variable (Z : Rows Ideal) (B : Book Ideal)

theorem codes0 : codesAt (table0 B) = tblAt B 0 := funext fun k => funext fun j => RefRun.table0_at B k j
theorem codes1 : codesAt (table1 B) = tblAt B 1 := funext fun k => funext fun j => RefRun.table1_at B k j
theorem codes2 : codesAt (table2 B) = tblAt B 2 := funext fun k => funext fun j => RefRun.table2_at B k j
theorem codes3 : codesAt (table3 B) = tblAt B 3 := funext fun k => funext fun j => RefRun.table3_at B k j

/-- Matrices of rows that agree at every row and place are equal. -/
theorem rows_ext {f g : Vec Ideal S16384x64 .f32} (h : ∀ n k, f (ix2 n k) = g (ix2 n k)) : f = g := by
  funext i
  have e : i = ix2 (i (0 : Fin 2)) (i (1 : Fin 2)) := eq_ix2 i
  rw [e]
  exact h _ _
/-- Columns that agree at every row are equal. -/
theorem column_ext {f g : Vec Ideal S16384x1 .i32} (h : ∀ n, f (ix2 n 0) = g (ix2 n 0)) : f = g := by
  funext i
  have e : i = ix2 (i (0 : Fin 2)) (0 : Fin 1) := by
    rw [← Subsingleton.elim (α := Fin 1) (i (1 : Fin 2)) 0]
    exact eq_ix2 i
  rw [e]
  exact h _

/-- Places as a column. -/
def columnOf (w : RefRun.Places Ideal) : Vec Ideal S16384x1 .i32 :=
  broadcastInDim ReferenceIdeal.S16384x1 ![0] ReferenceIdeal.Gen.bcast_S16384_S16384x1_0 w
theorem columnOf_at (w : RefRun.Places Ideal) (n : Fin 16384) : columnOf w (ix2 n 0) = w (ix1 n) := by
  pointwise [columnOf]

section Stage

variable {B} (A : Rows Ideal) {T : Table Ideal} {s : Fin 4} (h : codesAt T = tblAt B s)
include h

/-- A stage of the reference leaves what the kernel's leaves. -/
theorem left_eq : left A T = nextArr A B s :=
  rows_ext fun n k => by rw [RefRun.left_at, h]; rfl
/-- It takes the code at the place. -/
theorem taken_eq (n : Fin 16384) (k : Fin 64) : taken A T (ix2 n k) = tblAt B s (Spec.near (rowAt A n) (tblAt B s)) k := by
  rw [RefRun.taken_at, h]
/-- It finds the same places. -/
theorem places_eq : columnOf (choose A T) = placesArr A B s :=
  column_ext fun n => by rw [columnOf_at, RefRun.choose_at, h]; rfl

end Stage

theorem res1_eq : res1 Z B = left1 Z B := left_eq Z (codes0 B)
theorem res2_eq : res2 Z B = left2 Z B := by rw [res2, res1_eq]; exact left_eq _ (codes1 B)
theorem res3_eq : res3 Z B = left3 Z B := by rw [res3, res2_eq]; exact left_eq _ (codes2 B)

/-- The reference's places are its four columns side by side. -/
theorem placesOf_columns : RefRun.placesOf Z B = besides (columnOf (choose Z (table0 B))) (columnOf (choose (res1 Z B) (table1 B)))
    (columnOf (choose (res2 Z B) (table2 B))) (columnOf (choose (res3 Z B) (table3 B))) := rfl

/-- The places of the two programs. -/
theorem placesOf_eq : RefRun.placesOf Z B
    = besides (placesArr Z B 0) (placesArr (left1 Z B) B 1) (placesArr (left2 Z B) B 2) (placesArr (left3 Z B) B 3) := by
  rw [placesOf_columns, places_eq Z (codes0 B), places_eq _ (codes1 B), places_eq _ (codes2 B), places_eq _ (codes3 B), res1_eq, res2_eq, res3_eq]

variable (hZ : ∀ i, Finite (Z i)) (hB : ∀ i, Finite (B i))
include hZ hB

/-- The sum of the four codes is the row less what is left of it. -/
theorem total_at (n : Fin 16384) (k : Fin 64) : RefRun.total Z B (ix2 n k) = Z (ix2 n k) - nextArr (left3 Z B) B 3 (ix2 n k) := by
  refine (RefRun.sumOf_at _ _ _ _ n k).trans ?_
  rw [taken_eq Z (codes0 B), taken_eq _ (codes1 B), taken_eq _ (codes2 B), taken_eq _ (codes3 B), res1_eq, res2_eq, res3_eq]
  exact (four_off (hZ _) (hB _) (hB _) (hB _) (hB _)).symm

/-- The quantised rows of the two programs. -/
theorem outOf_eq : RefRun.outOf Z B = throughArr Z (left3 Z B) B 3 := by
  refine rows_ext fun n k => ?_
  have f : RefRun.outOf Z B (ix2 n k) = RefRun.total Z B (ix2 n k) + (Z (ix2 n k) - RefRun.total Z B (ix2 n k)) := rfl
  rw [f, total_at Z B hZ hB]
  rfl

/-- The loss of the two programs. -/
theorem lossOf_eq : RefRun.lossOf Z B = fun _ => (∑ t : Fin 8, ∑ r : Fin 2048, rowLoss (rowAt Z (place t r))
        (Spec.next (rowAt (left3 Z B) (place t r)) (tblAt B 3))) * Ideal.ofBits .f32 0x35800000#32 := by
  funext i
  pointwise [RefRun.lossOf]
  simp only [total_at Z B hZ hB]
  rw [mean_eq]
  refine congrArg (fun v : EReal => v * Ideal.ofBits .f32 0x35800000#32) ?_
  refine Eq.trans ?_ (sum_places fun n => rowLoss (rowAt Z n) (Spec.next (rowAt (left3 Z B) n) (tblAt B 3))).symm
  refine Finset.sum_congr rfl fun n _ => ?_
  rfl

end Cert.Match

end
-- ==== Proof.Bounded.lean ====
module

public import proofs.«01_k».proof.Pre_finite
public import proofs.«01_k».proof.Proof.Match
public import Idealize.ShloMosaic.Lib.ReduceAll

/-!
# What the precondition says

The printed predicate is all ones exactly when no element of either argument is an infinity; one direction is used.
-/

@[expose] public section

set_option Elab.async false
set_option maxRecDepth 16384

noncomputable section

namespace Cert.Bounded

open Idealize.ShloMosaic Cert.Match

/-- The shape relations that the predicate's operations take. -/
theorem facts : Cert.Pre_finite.Facts where
  bcast_S_S16384x64 := by decide
  reducesTo_S16384x64_S_d0_1 := by decide
  h_S_ := by decide
  bcast_S_S4x1024x64 := by decide
  reducesTo_S4x1024x64_S_d0_1_2 := by decide

/-- A magnitude below infinity is of a finite value. -/
theorem finite_of_abs {x : EReal} (h : BitVec.ofBool (decide (max x (-x) < Ideal.ofBits .f32 0x7F800000#32)) = 1#1) : Finite x := by
  have htop : Ideal.ofBits .f32 0x7F800000#32 = ⊤ := by simp [Ideal.ofBits, Ideal.ieee]
  rw [htop] at h
  by_cases hx : max x (-x) < ⊤
  · obtain ⟨h1, h2⟩ := max_lt_iff.1 hx
    refine ⟨h1.ne, fun e => ?_⟩
    rw [e, EReal.neg_bot] at h2
    exact absurd h2 (lt_irrefl _)
  · rw [decide_eq_false hx] at h
    exact absurd h (by decide)

/-- Two bits whose conjunction is one are one. -/
theorem both_one : ∀ p q : BitVec 1, IntOp.andi p q = 1#1 → p = 1#1 ∧ q = 1#1 := by decide

instance : Subsingleton Pre_finite.S_.Idx := ⟨fun a b => funext fun k => k.elim0⟩

/-- Where the predicate is all ones, every element of both arguments is finite. -/
theorem finite_of_pre [Cert.Pre_finite.Facts] (Z : FVec Ideal Pre_finite.S16384x64 .f32) (B : FVec Ideal Pre_finite.S4x1024x64 .f32)
    (h : Cert.Pre_finite.fn (F := Ideal) Z B = fun _ => 1#1) : (∀ i, Finite (Z i)) ∧ ∀ i, Finite (B i) := by
  obtain ⟨h1, h2⟩ := both_one _ _ (congrFun h ix0)
  exact ⟨fun i => finite_of_abs (Host.reduce_andi_all _ _ _ _ _ h1 i), fun i => finite_of_abs (Host.reduce_andi_all _ _ _ _ _ h2 i)⟩

end Cert.Bounded

end
-- ==== Proof.Agree.lean ====
module

public import proofs.«01_k».proof.Defs
public import proofs.«01_k».proof.Proof.Bounded
public import proofs.«01_k».proof.Proof.Frames

/-!
# The kernel and the reference agree

From memories with the same finite arguments both programs end with the same three results.
-/

@[expose] public section

set_option Elab.async false
set_option maxRecDepth 16384

noncomputable section

namespace Cert.Agree

open Idealize.ShloMosaic Idealize.ShloMosaic.TcCoe Idealize.SL.Sem Cert.Match

/-- The claim that the two programs compute the same over the extended reals, of finite arguments. -/
theorem algebraic : @algebraic_KernelIdeal_ReferenceIdeal_pre_finite KernelIdeal.Gen.facts ReferenceIdeal.Gen.facts Bounded.facts := by
  intro m g m' g' hpre hargs
  have hfin := fun c => @Bounded.finite_of_pre Bounded.facts _ _ (hpre c)
  refine ⟨fun c => Rvq.final m c (Proc.devRef .tc KernelIdeal.main_v0_0), fun c => Rvq.final m c (Proc.devRef .tc KernelIdeal.main_v0_1),
    fun c => Rvq.final m c (Proc.devRef .tc KernelIdeal.main_v0_2), (Rvq.run m g).mono fun r h c => ?_, (RefRun.run m' g').mono fun r h c => ?_⟩
  · exact ⟨h.1 c KernelIdeal.main_v0_0 rfl, h.1 c KernelIdeal.main_v0_1 rfl, h.1 c KernelIdeal.main_v0_2 rfl,
      (h.1 c KernelIdeal.main_arg0 rfl).trans (Rvq.final_arg0 m c), (h.1 c KernelIdeal.main_arg1 rfl).trans (Rvq.final_arg1 m c)⟩
  · obtain ⟨h0, h1, h2, h3, h4⟩ := h c
    obtain ⟨hZ, hB⟩ := hfin c
    obtain ⟨e0, e1⟩ := hargs c
    rw [e0, e1] at h0 h1 h2
    refine ⟨h0.trans ?_, h1.trans ?_, h2.trans ?_, h3, h4⟩
    · exact (outOf_eq _ _ hZ hB).trans (Rvq.final_rows m c hB).symm
    · exact (placesOf_eq _ _).trans (Rvq.final_places m c hB).symm
    · exact (lossOf_eq _ _ hZ hB).trans (Rvq.final_loss m c hB).symm

end Cert.Agree

end
-- ==== Proof.lean ====
module

public import proofs.«01_k».proof.Defs
public import proofs.«01_k».proof.Proof.Frames
public import proofs.«01_k».proof.Proof.Agree

@[expose] public section

noncomputable section

namespace Cert.Proof

/-- Everything that is claimed. -/
theorem claim : Cert.Claim :=
  ⟨Cert.Kernel.Gen.facts, Cert.KernelIdeal.Gen.facts, Cert.ReferenceIdeal.Gen.facts, Cert.Bounded.facts,
    fun m g _ => Cert.Frames.kernel m g, fun m g _ => Cert.Rvq.frame m g, fun m g _ => Cert.Rvq.frame m g,
    fun m g _ => Cert.Frames.reference m g, fun m g _ => Cert.Frames.reference m g, trivial, Cert.Agree.algebraic⟩

end Cert.Proof

end
